-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 1024]⟩ ⟨3, ![4, 4096, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.blockN ⟨2, ![1024, 1024]⟩ ⟨2, ![4096, 1024]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x1024 : Shape := ⟨3, ![1, 4096, 1024]⟩
abbrev S1024 : Shape := ⟨1, ![1024]⟩
abbrev S_ : Shape := ⟨0, ![]⟩
abbrev S4x1024x1024 : Shape := ⟨3, ![4, 1024, 1024]⟩
abbrev S4x128x1024 : Shape := ⟨3, ![4, 128, 1024]⟩
abbrev S512x1024 : Shape := ⟨2, ![512, 1024]⟩
abbrev S1x1024 : Shape := ⟨2, ![1, 1024]⟩
abbrev S1024x1024 : Shape := ⟨2, ![1024, 1024]⟩
abbrev S3 : Shape := ⟨1, ![3]⟩
abbrev S4 : Shape := ⟨1, ![4]⟩
abbrev S128x1024 : Shape := ⟨2, ![128, 1024]⟩
abbrev S1x128x1024 : Shape := ⟨3, ![1, 128, 1024]⟩
abbrev S1 : Shape := ⟨1, ![1]⟩
abbrev S128 : Shape := ⟨1, ![128]⟩
abbrev S128x1 : Shape := ⟨2, ![128, 1]⟩

abbrev nBuf : Space → Nat
  | .hbm => 31
  | .vmem => 6
  | .smem => 0
  | _ => 0

abbrev bufTy : (tb : Table) → Fin (tcTables nBuf tb) → BufTy
  | .hbm, ⟨0, _⟩ => ⟨S1x4096x1024, .bf16⟩
  | .hbm, ⟨1, _⟩ => ⟨S1024, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S4x1024x1024, .bf16⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S4x128x1024, .bf16⟩
  | .hbm, ⟨28, _⟩ => ⟨S512x1024, .bf16⟩
  | .hbm, ⟨29, _⟩ => ⟨S1x1024, .bf16⟩
  | .hbm, ⟨30, _⟩ => ⟨S1024x1024, .f32⟩
  | .local _ .vmem, ⟨0, _⟩ => ⟨S512x1024, .bf16⟩
  | .local _ .vmem, ⟨1, _⟩ => ⟨S1x1024, .bf16⟩
  | .local _ .vmem, ⟨2, _⟩ => ⟨S1024x1024, .f32⟩
  | .local _ .vmem, ⟨3, _⟩ => ⟨S4x128x1024, .bf16⟩
  | .local _ .vmem, ⟨4, _⟩ => ⟨S4x128x1024, .bf16⟩
  | .local _ .vmem, ⟨5, _⟩ => ⟨S4x128x1024, .bf16⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 2 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_v12 : Ref sig .tc := ⟨.hbm, 19, rfl⟩
abbrev main_c_5 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_v15 : Ref sig .tc := ⟨.hbm, 24, rfl⟩
abbrev main_c_7 : Ref sig .tc := ⟨.hbm, 25, rfl⟩
abbrev main_c_8 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch3 : Ref sig .tc := ⟨.vmem, 4, rfl⟩
abbrev cc0_scratch6 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v58 : BitVec 32 := Scalar.muli v2 c16_i32_32
  let v59 : BitVec 32 := Scalar.addi c0_i32_33 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v36 : BitVec 32 := Scalar.subi v5 c1_i32_17
  let c4_i32_18 : BitVec 32 := 4#32
  let c0_i32_19 : BitVec 32 := 0#32
  let v37 : BitVec 1 := Scalar.cmpi .eq c4_i32_18 c0_i32_19
  let c1_i32_20 : BitVec 32 := 1#32
  let v38 : BitVec 32 := Scalar.select v37 c1_i32_20 c4_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_34 : BitVec 32 := 4#32
  let v60 : BitVec 32 := Scalar.muli v46 c4_i32_34
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v62 : BitVec 32 := Scalar.muli v8 c1_i32_35
  let v63 : BitVec 32 := Scalar.addi v61 v62
  v63.toNat
def k0_dev2 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_37 : BitVec 32 := 16#32
  let v64 : BitVec 32 := Scalar.muli v2 c16_i32_37
  let v65 : BitVec 32 := Scalar.addi c0_i32_38 v64
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_39 : BitVec 32 := 4#32
  let v66 : BitVec 32 := Scalar.muli v19 c4_i32_39
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v68 : BitVec 32 := Scalar.muli v8 c1_i32_40
  let v69 : BitVec 32 := Scalar.addi v67 v68
  v69.toNat
def k0_dev3 (d0 : Dev nD) : Nat :=
  let c0_i32_43 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_42 : BitVec 32 := 16#32
  let v70 : BitVec 32 := Scalar.muli v2 c16_i32_42
  let v71 : BitVec 32 := Scalar.addi c0_i32_43 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_44 : BitVec 32 := 4#32
  let v72 : BitVec 32 := Scalar.muli v5 c4_i32_44
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v47 : BitVec 32 := Scalar.subi v8 c1_i32_24
  let c4_i32_25 : BitVec 32 := 4#32
  let c0_i32_26 : BitVec 32 := 0#32
  let v48 : BitVec 1 := Scalar.cmpi .eq c4_i32_25 c0_i32_26
  let c1_i32_27 : BitVec 32 := 1#32
  let v49 : BitVec 32 := Scalar.select v48 c1_i32_27 c4_i32_25
  let v50 : BitVec 32 := Scalar.remsi v47 v49
  let c0_i32_29 : BitVec 32 := 0#32
  let v52 : BitVec 1 := Scalar.cmpi .slt v50 c0_i32_29
  let c0_i32_30 : BitVec 32 := 0#32
  let v53 : BitVec 1 := Scalar.cmpi .slt v49 c0_i32_30
  let v54 : BitVec 1 := Scalar.xori v52 v53
  let c0_i32_28 : BitVec 32 := 0#32
  let v51 : BitVec 1 := Scalar.cmpi .ne v50 c0_i32_28
  let v55 : BitVec 1 := Scalar.andi v54 v51
  let v56 : BitVec 32 := Scalar.addi v50 v49
  let v57 : BitVec 32 := Scalar.select v55 v56 v50
  let c1_i32_45 : BitVec 32 := 1#32
  let v74 : BitVec 32 := Scalar.muli v57 c1_i32_45
  let v75 : BitVec 32 := Scalar.addi v73 v74
  v75.toNat
def k0_dev4 (d0 : Dev nD) : Nat :=
  let c0_i32_48 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_47 : BitVec 32 := 16#32
  let v76 : BitVec 32 := Scalar.muli v2 c16_i32_47
  let v77 : BitVec 32 := Scalar.addi c0_i32_48 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_49 : BitVec 32 := 4#32
  let v78 : BitVec 32 := Scalar.muli v5 c4_i32_49
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_50 : BitVec 32 := 1#32
  let v80 : BitVec 32 := Scalar.muli v30 c1_i32_50
  let v81 : BitVec 32 := Scalar.addi v79 v80
  v81.toNat
def k0_dev5 (d0 : Dev nD) : Nat :=
  let c0_i32_53 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_15 v2
  let c16_i32_52 : BitVec 32 := 16#32
  let v82 : BitVec 32 := Scalar.muli v31 c16_i32_52
  let v83 : BitVec 32 := Scalar.addi c0_i32_53 v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_54 : BitVec 32 := 4#32
  let v84 : BitVec 32 := Scalar.muli v5 c4_i32_54
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v86 : BitVec 32 := Scalar.muli v8 c1_i32_55
  let v87 : BitVec 32 := Scalar.addi v85 v86
  v87.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_56 : BitVec 32 := 1#32
  let v88 : BitVec 32 := Scalar.subi v5 c1_i32_56
  let c4_i32_57 : BitVec 32 := 4#32
  let c0_i32_58 : BitVec 32 := 0#32
  let v89 : BitVec 1 := Scalar.cmpi .eq c4_i32_57 c0_i32_58
  let c1_i32_59 : BitVec 32 := 1#32
  let v90 : BitVec 32 := Scalar.select v89 c1_i32_59 c4_i32_57
  let v91 : BitVec 32 := Scalar.remsi v88 v90
  let c0_i32_61 : BitVec 32 := 0#32
  let v93 : BitVec 1 := Scalar.cmpi .slt v91 c0_i32_61
  let c0_i32_62 : BitVec 32 := 0#32
  let v94 : BitVec 1 := Scalar.cmpi .slt v90 c0_i32_62
  let v95 : BitVec 1 := Scalar.xori v93 v94
  let c0_i32_60 : BitVec 32 := 0#32
  let v92 : BitVec 1 := Scalar.cmpi .ne v91 c0_i32_60
  let v96 : BitVec 1 := Scalar.andi v95 v92
  let v97 : BitVec 32 := Scalar.addi v91 v90
  let v98 : BitVec 32 := Scalar.select v96 v97 v91
  let c128_i32_63 : BitVec 32 := 128#32
  let v99 : BitVec 32 := Scalar.muli v98 c128_i32_63
  let v100 : Index := Scalar.indexCast v99
  let c0 : Index := 0#32
  ![v100.toNat, 0]
def k0_dev6 (d0 : Dev nD) : Nat :=
  let c0_i32_72 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_71 : BitVec 32 := 16#32
  let v106 : BitVec 32 := Scalar.muli v2 c16_i32_71
  let v107 : BitVec 32 := Scalar.addi c0_i32_72 v106
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_73 : BitVec 32 := 4#32
  let v108 : BitVec 32 := Scalar.muli v19 c4_i32_73
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v110 : BitVec 32 := Scalar.muli v8 c1_i32_74
  let v111 : BitVec 32 := Scalar.addi v109 v110
  v111.toNat
def k0_off2 (d0 : Dev nD) (c0_i32_101 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_100 : BitVec 32 := 2#32
  let v138 : BitVec 32 := Scalar.subi v5 c2_i32_100
  let v139 : BitVec 32 := Scalar.subi v138 c0_i32_101
  let c4_i32_102 : BitVec 32 := 4#32
  let c0_i32_103 : BitVec 32 := 0#32
  let v140 : BitVec 1 := Scalar.cmpi .eq c4_i32_102 c0_i32_103
  let c1_i32_104 : BitVec 32 := 1#32
  let v141 : BitVec 32 := Scalar.select v140 c1_i32_104 c4_i32_102
  let v142 : BitVec 32 := Scalar.remsi v139 v141
  let c0_i32_106 : BitVec 32 := 0#32
  let v144 : BitVec 1 := Scalar.cmpi .slt v142 c0_i32_106
  let c0_i32_107 : BitVec 32 := 0#32
  let v145 : BitVec 1 := Scalar.cmpi .slt v141 c0_i32_107
  let v146 : BitVec 1 := Scalar.xori v144 v145
  let c0_i32_105 : BitVec 32 := 0#32
  let v143 : BitVec 1 := Scalar.cmpi .ne v142 c0_i32_105
  let v147 : BitVec 1 := Scalar.andi v146 v143
  let v148 : BitVec 32 := Scalar.addi v142 v141
  let v149 : BitVec 32 := Scalar.select v147 v148 v142
  let c128_i32_110 : BitVec 32 := 128#32
  let v153 : BitVec 32 := Scalar.muli v149 c128_i32_110
  let v154 : Index := Scalar.indexCast v153
  let c0_111 : Index := 0#32
  ![v154.toNat, 0]
def k0_dev7 (d0 : Dev nD) : Nat :=
  let c0_i32_120 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_119 : BitVec 32 := 16#32
  let v163 : BitVec 32 := Scalar.muli v2 c16_i32_119
  let v164 : BitVec 32 := Scalar.addi c0_i32_120 v163
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_121 : BitVec 32 := 4#32
  let v165 : BitVec 32 := Scalar.muli v19 c4_i32_121
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_122 : BitVec 32 := 1#32
  let v167 : BitVec 32 := Scalar.muli v8 c1_i32_122
  let v168 : BitVec 32 := Scalar.addi v166 v167
  v168.toNat
def k0_dev8 (d0 : Dev nD) : Nat :=
  let c0_i32_167 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_166 : BitVec 32 := 16#32
  let v220 : BitVec 32 := Scalar.muli v2 c16_i32_166
  let v221 : BitVec 32 := Scalar.addi c0_i32_167 v220
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_168 : BitVec 32 := 4#32
  let v222 : BitVec 32 := Scalar.muli v19 c4_i32_168
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_169 : BitVec 32 := 1#32
  let v224 : BitVec 32 := Scalar.muli v8 c1_i32_169
  let v225 : BitVec 32 := Scalar.addi v223 v224
  v225.toNat
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_16 : BitVec 32 := 4#32
  let v32 : BitVec 32 := Scalar.muli v2 c4_i32_16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v33 : BitVec 32 := Scalar.addi v32 v8
  let c128_i32 : BitVec 32 := 128#32
  let v34 : BitVec 32 := Scalar.muli v33 c128_i32
  let v288 : Index := Scalar.indexCast v34
  let c0_211 : Index := 0#32
  ![v288.toNat, 0]
def k0_dev9 (d0 : Dev nD) : Nat :=
  let c0_i32_220 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_15 v2
  let c16_i32_219 : BitVec 32 := 16#32
  let v294 : BitVec 32 := Scalar.muli v31 c16_i32_219
  let v295 : BitVec 32 := Scalar.addi c0_i32_220 v294
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_221 : BitVec 32 := 4#32
  let v296 : BitVec 32 := Scalar.muli v5 c4_i32_221
  let v297 : BitVec 32 := Scalar.addi v295 v296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v298 : BitVec 32 := Scalar.muli v8 c1_i32_222
  let v299 : BitVec 32 := Scalar.addi v297 v298
  v299.toNat
def k0_dev10 (d0 : Dev nD) : Nat :=
  let c0_i32_232 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_231 : BitVec 32 := 16#32
  let v308 : BitVec 32 := Scalar.muli v2 c16_i32_231
  let v309 : BitVec 32 := Scalar.addi c0_i32_232 v308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_233 : BitVec 32 := 4#32
  let v310 : BitVec 32 := Scalar.muli v5 c4_i32_233
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_234 : BitVec 32 := 1#32
  let v312 : BitVec 32 := Scalar.muli v30 c1_i32_234
  let v313 : BitVec 32 := Scalar.addi v311 v312
  v313.toNat
def k0_dev11 (d0 : Dev nD) : Nat :=
  let c0_i32_274 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_15 v2
  let c16_i32_273 : BitVec 32 := 16#32
  let v346 : BitVec 32 := Scalar.muli v31 c16_i32_273
  let v347 : BitVec 32 := Scalar.addi c0_i32_274 v346
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_275 : BitVec 32 := 4#32
  let v348 : BitVec 32 := Scalar.muli v5 c4_i32_275
  let v349 : BitVec 32 := Scalar.addi v347 v348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v350 : BitVec 32 := Scalar.muli v8 c1_i32_276
  let v351 : BitVec 32 := Scalar.addi v349 v350
  v351.toNat
def k0_dev12 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v360 : BitVec 32 := Scalar.muli v2 c16_i32_285
  let v361 : BitVec 32 := Scalar.addi c0_i32_286 v360
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_287 : BitVec 32 := 4#32
  let v362 : BitVec 32 := Scalar.muli v5 c4_i32_287
  let v363 : BitVec 32 := Scalar.addi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_288 : BitVec 32 := 1#32
  let v364 : BitVec 32 := Scalar.muli v30 c1_i32_288
  let v365 : BitVec 32 := Scalar.addi v363 v364
  v365.toNat
def k0_dev13 (d0 : Dev nD) : Nat :=
  let c0_i32_328 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_15 v2
  let c16_i32_327 : BitVec 32 := 16#32
  let v398 : BitVec 32 := Scalar.muli v31 c16_i32_327
  let v399 : BitVec 32 := Scalar.addi c0_i32_328 v398
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_329 : BitVec 32 := 4#32
  let v400 : BitVec 32 := Scalar.muli v5 c4_i32_329
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v402 : BitVec 32 := Scalar.muli v8 c1_i32_330
  let v403 : BitVec 32 := Scalar.addi v401 v402
  v403.toNat
def k0_dev14 (d0 : Dev nD) : Nat :=
  let c0_i32_340 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_339 : BitVec 32 := 16#32
  let v412 : BitVec 32 := Scalar.muli v2 c16_i32_339
  let v413 : BitVec 32 := Scalar.addi c0_i32_340 v412
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_341 : BitVec 32 := 4#32
  let v414 : BitVec 32 := Scalar.muli v5 c4_i32_341
  let v415 : BitVec 32 := Scalar.addi v413 v414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_342 : BitVec 32 := 1#32
  let v416 : BitVec 32 := Scalar.muli v30 c1_i32_342
  let v417 : BitVec 32 := Scalar.addi v415 v416
  v417.toNat
def k0_dev15 (d0 : Dev nD) : Nat :=
  let c0_i32_382 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_15 v2
  let c16_i32_381 : BitVec 32 := 16#32
  let v450 : BitVec 32 := Scalar.muli v31 c16_i32_381
  let v451 : BitVec 32 := Scalar.addi c0_i32_382 v450
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_383 : BitVec 32 := 4#32
  let v452 : BitVec 32 := Scalar.muli v5 c4_i32_383
  let v453 : BitVec 32 := Scalar.addi v451 v452
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_384 : BitVec 32 := 1#32
  let v454 : BitVec 32 := Scalar.muli v8 c1_i32_384
  let v455 : BitVec 32 := Scalar.addi v453 v454
  v455.toNat
def k0_off4 (d0 : Dev nD) (c0_i32_398 : BitVec 32) : Fin 2 → Nat :=
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_15 v2
  let c4_i32_420 : BitVec 32 := 4#32
  let v496 : BitVec 32 := Scalar.muli v31 c4_i32_420
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v470 : BitVec 32 := Scalar.subi v8 c0_i32_398
  let c4_i32_399 : BitVec 32 := 4#32
  let c0_i32_400 : BitVec 32 := 0#32
  let v471 : BitVec 1 := Scalar.cmpi .eq c4_i32_399 c0_i32_400
  let c1_i32_401 : BitVec 32 := 1#32
  let v472 : BitVec 32 := Scalar.select v471 c1_i32_401 c4_i32_399
  let v473 : BitVec 32 := Scalar.remsi v470 v472
  let c0_i32_403 : BitVec 32 := 0#32
  let v475 : BitVec 1 := Scalar.cmpi .slt v473 c0_i32_403
  let c0_i32_404 : BitVec 32 := 0#32
  let v476 : BitVec 1 := Scalar.cmpi .slt v472 c0_i32_404
  let v477 : BitVec 1 := Scalar.xori v475 v476
  let c0_i32_402 : BitVec 32 := 0#32
  let v474 : BitVec 1 := Scalar.cmpi .ne v473 c0_i32_402
  let v478 : BitVec 1 := Scalar.andi v477 v474
  let v479 : BitVec 32 := Scalar.addi v473 v472
  let v480 : BitVec 32 := Scalar.select v478 v479 v473
  let v497 : BitVec 32 := Scalar.addi v496 v480
  let c128_i32_421 : BitVec 32 := 128#32
  let v498 : BitVec 32 := Scalar.muli v497 c128_i32_421
  let v499 : Index := Scalar.indexCast v498
  let c0_422 : Index := 0#32
  ![v499.toNat, 0]
def k0_off5 (d0 : Dev nD) (c1_i32_423 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_433 : BitVec 32 := 4#32
  let v515 : BitVec 32 := Scalar.muli v2 c4_i32_433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v501 : BitVec 32 := Scalar.subi v8 c1_i32_423
  let c4_i32_424 : BitVec 32 := 4#32
  let c0_i32_425 : BitVec 32 := 0#32
  let v502 : BitVec 1 := Scalar.cmpi .eq c4_i32_424 c0_i32_425
  let c1_i32_426 : BitVec 32 := 1#32
  let v503 : BitVec 32 := Scalar.select v502 c1_i32_426 c4_i32_424
  let v504 : BitVec 32 := Scalar.remsi v501 v503
  let c0_i32_428 : BitVec 32 := 0#32
  let v506 : BitVec 1 := Scalar.cmpi .slt v504 c0_i32_428
  let c0_i32_429 : BitVec 32 := 0#32
  let v507 : BitVec 1 := Scalar.cmpi .slt v503 c0_i32_429
  let v508 : BitVec 1 := Scalar.xori v506 v507
  let c0_i32_427 : BitVec 32 := 0#32
  let v505 : BitVec 1 := Scalar.cmpi .ne v504 c0_i32_427
  let v509 : BitVec 1 := Scalar.andi v508 v505
  let v510 : BitVec 32 := Scalar.addi v504 v503
  let v511 : BitVec 32 := Scalar.select v509 v510 v504
  let v516 : BitVec 32 := Scalar.addi v515 v511
  let c128_i32_434 : BitVec 32 := 128#32
  let v517 : BitVec 32 := Scalar.muli v516 c128_i32_434
  let v518 : Index := Scalar.indexCast v517
  let c0_435 : Index := 0#32
  ![v518.toNat, 0]
def k0_dev16 (d0 : Dev nD) : Nat :=
  let c0_i32_518_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_517_r0 : BitVec 32 := 16#32
  let v619_r0 : BitVec 32 := Scalar.muli v2 c16_i32_517_r0
  let v620_r0 : BitVec 32 := Scalar.addi c0_i32_518_r0 v619_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_17 : BitVec 32 := 1#32
  let v36 : BitVec 32 := Scalar.subi v5 c1_i32_17
  let c4_i32_18 : BitVec 32 := 4#32
  let c0_i32_19 : BitVec 32 := 0#32
  let v37 : BitVec 1 := Scalar.cmpi .eq c4_i32_18 c0_i32_19
  let c1_i32_20 : BitVec 32 := 1#32
  let v38 : BitVec 32 := Scalar.select v37 c1_i32_20 c4_i32_18
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c4_i32_519_r0 : BitVec 32 := 4#32
  let v621_r0 : BitVec 32 := Scalar.muli v46 c4_i32_519_r0
  let v622_r0 : BitVec 32 := Scalar.addi v620_r0 v621_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520_r0 : BitVec 32 := 1#32
  let v623_r0 : BitVec 32 := Scalar.muli v8 c1_i32_520_r0
  let v624_r0 : BitVec 32 := Scalar.addi v622_r0 v623_r0
  v624_r0.toNat
def k0_dev17 (d0 : Dev nD) : Nat :=
  let c0_i32_523_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_522_r0 : BitVec 32 := 16#32
  let v625_r0 : BitVec 32 := Scalar.muli v2 c16_i32_522_r0
  let v626_r0 : BitVec 32 := Scalar.addi c0_i32_523_r0 v625_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_524_r0 : BitVec 32 := 4#32
  let v627_r0 : BitVec 32 := Scalar.muli v19 c4_i32_524_r0
  let v628_r0 : BitVec 32 := Scalar.addi v626_r0 v627_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_525_r0 : BitVec 32 := 1#32
  let v629_r0 : BitVec 32 := Scalar.muli v8 c1_i32_525_r0
  let v630_r0 : BitVec 32 := Scalar.addi v628_r0 v629_r0
  v630_r0.toNat
def k0_dev18 (d0 : Dev nD) : Nat :=
  let c0_i32_528_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_527_r0 : BitVec 32 := 16#32
  let v631_r0 : BitVec 32 := Scalar.muli v2 c16_i32_527_r0
  let v632_r0 : BitVec 32 := Scalar.addi c0_i32_528_r0 v631_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_529_r0 : BitVec 32 := 4#32
  let v633_r0 : BitVec 32 := Scalar.muli v5 c4_i32_529_r0
  let v634_r0 : BitVec 32 := Scalar.addi v632_r0 v633_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v47 : BitVec 32 := Scalar.subi v8 c1_i32_24
  let c4_i32_25 : BitVec 32 := 4#32
  let c0_i32_26 : BitVec 32 := 0#32
  let v48 : BitVec 1 := Scalar.cmpi .eq c4_i32_25 c0_i32_26
  let c1_i32_27 : BitVec 32 := 1#32
  let v49 : BitVec 32 := Scalar.select v48 c1_i32_27 c4_i32_25
  let v50 : BitVec 32 := Scalar.remsi v47 v49
  let c0_i32_29 : BitVec 32 := 0#32
  let v52 : BitVec 1 := Scalar.cmpi .slt v50 c0_i32_29
  let c0_i32_30 : BitVec 32 := 0#32
  let v53 : BitVec 1 := Scalar.cmpi .slt v49 c0_i32_30
  let v54 : BitVec 1 := Scalar.xori v52 v53
  let c0_i32_28 : BitVec 32 := 0#32
  let v51 : BitVec 1 := Scalar.cmpi .ne v50 c0_i32_28
  let v55 : BitVec 1 := Scalar.andi v54 v51
  let v56 : BitVec 32 := Scalar.addi v50 v49
  let v57 : BitVec 32 := Scalar.select v55 v56 v50
  let c1_i32_530_r0 : BitVec 32 := 1#32
  let v635_r0 : BitVec 32 := Scalar.muli v57 c1_i32_530_r0
  let v636_r0 : BitVec 32 := Scalar.addi v634_r0 v635_r0
  v636_r0.toNat
def k0_dev19 (d0 : Dev nD) : Nat :=
  let c0_i32_533_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_532_r0 : BitVec 32 := 16#32
  let v637_r0 : BitVec 32 := Scalar.muli v2 c16_i32_532_r0
  let v638_r0 : BitVec 32 := Scalar.addi c0_i32_533_r0 v637_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_534_r0 : BitVec 32 := 4#32
  let v639_r0 : BitVec 32 := Scalar.muli v5 c4_i32_534_r0
  let v640_r0 : BitVec 32 := Scalar.addi v638_r0 v639_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_535_r0 : BitVec 32 := 1#32
  let v641_r0 : BitVec 32 := Scalar.muli v30 c1_i32_535_r0
  let v642_r0 : BitVec 32 := Scalar.addi v640_r0 v641_r0
  v642_r0.toNat
def k0_dev20 (d0 : Dev nD) : Nat :=
  let c0_i32_538_r0 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_15 v2
  let c16_i32_537_r0 : BitVec 32 := 16#32
  let v643_r0 : BitVec 32 := Scalar.muli v31 c16_i32_537_r0
  let v644_r0 : BitVec 32 := Scalar.addi c0_i32_538_r0 v643_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_539_r0 : BitVec 32 := 4#32
  let v645_r0 : BitVec 32 := Scalar.muli v5 c4_i32_539_r0
  let v646_r0 : BitVec 32 := Scalar.addi v644_r0 v645_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_540_r0 : BitVec 32 := 1#32
  let v647_r0 : BitVec 32 := Scalar.muli v8 c1_i32_540_r0
  let v648_r0 : BitVec 32 := Scalar.addi v646_r0 v647_r0
  v648_r0.toNat
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x4096x1024 : Shape := ⟨3, ![4, 4096, 1024]⟩
abbrev S1024 : Shape := ⟨1, ![1024]⟩
abbrev S_ : Shape := ⟨0, ![]⟩
abbrev S4096x1024 : Shape := ⟨2, ![4096, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S1024, .bf16⟩
  | .hbm, ⟨2, _⟩ => ⟨S4x4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S1x1024, .f32⟩
  | .hbm, ⟨20, _⟩ => ⟨S4096x1024, .f32⟩
  | .hbm, ⟨21, _⟩ => ⟨S4096x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Mesh.lean ====
module

public import proofs.«01_k».proof.Proof.Gen.KernelIdeal.Regions
public import proofs.«01_k».proof.Proof.Gen.KernelIdeal.Points
public import proofs.«01_k».proof.Proof.Gen.KernelIdeal.Skeleton

@[expose] public section

noncomputable section

namespace Cert.KernelIdeal.Proof

open Idealize.ShloMosaic
open Idealize.ShloMosaic.TcCoe
open Idealize.SL Idealize.SL.Sem
open Cert.KernelIdeal.Gen Cert.KernelIdeal

/-! ## The mesh: device `16x + 4y + z`, its five neighbours -/

/-- The device with `y` moved by `k` places round the ring of four, -/
def yAdd (k : ℕ) (c : Dev nD) : Dev nD :=
  ⟨16 * (c.val / 16) + 4 * ((c.val / 4 + k) % 4) + c.val % 4, by
    have h := c.isLt; simp only [nD] at h ⊢; omega⟩
/-- and with `z` moved by `k` places; -/
def zAdd (k : ℕ) (c : Dev nD) : Dev nD :=
  ⟨16 * (c.val / 16) + 4 * ((c.val / 4) % 4) + (c.val % 4 + k) % 4, by
    have h := c.isLt; simp only [nD] at h ⊢; omega⟩
/-- the device at the other `x`. -/
def xp (c : Dev nD) : Dev nD :=
  ⟨(c.val + 16) % 32, by simp only [nD]; omega⟩

/-- Left and right along `y`, left and right along `z`. -/
abbrev lf (c : Dev nD) : Dev nD := yAdd 3 c
abbrev rt (c : Dev nD) : Dev nD := yAdd 1 c
abbrev zl (c : Dev nD) : Dev nD := zAdd 3 c
abbrev zr (c : Dev nD) : Dev nD := zAdd 1 c

theorem lf_rt : ∀ c : Dev nD, lf (rt c) = c := by decide +kernel
theorem rt_lf : ∀ c : Dev nD, rt (lf c) = c := by decide +kernel
theorem zl_zr : ∀ c : Dev nD, zl (zr c) = c := by decide +kernel
theorem zr_zl : ∀ c : Dev nD, zr (zl c) = c := by decide +kernel
theorem xp_xp : ∀ c : Dev nD, xp (xp c) = c := by decide +kernel
theorem xp_zl : ∀ c : Dev nD, xp (zl c) = zl (xp c) := by decide +kernel

/-- The devices the kernel names are these. -/
theorem dev1 (c : Dev nD) (h : k0_dev1 c < nD) : (⟨k0_dev1 c, h⟩ : Dev nD) = lf c := Fin.ext ((by decide +kernel : ∀ c : Dev nD, k0_dev1 c = (lf c).val) c)
theorem dev2 (c : Dev nD) (h : k0_dev2 c < nD) : (⟨k0_dev2 c, h⟩ : Dev nD) = rt c := Fin.ext ((by decide +kernel : ∀ c : Dev nD, k0_dev2 c = (rt c).val) c)
theorem dev3 (c : Dev nD) (h : k0_dev3 c < nD) : (⟨k0_dev3 c, h⟩ : Dev nD) = zl c := Fin.ext ((by decide +kernel : ∀ c : Dev nD, k0_dev3 c = (zl c).val) c)
theorem dev4 (c : Dev nD) (h : k0_dev4 c < nD) : (⟨k0_dev4 c, h⟩ : Dev nD) = zr c := Fin.ext ((by decide +kernel : ∀ c : Dev nD, k0_dev4 c = (zr c).val) c)
theorem dev5 (c : Dev nD) (h : k0_dev5 c < nD) : (⟨k0_dev5 c, h⟩ : Dev nD) = xp c := Fin.ext ((by decide +kernel : ∀ c : Dev nD, k0_dev5 c = (xp c).val) c)
theorem dev6 (c : Dev nD) (h : k0_dev6 c < nD) : (⟨k0_dev6 c, h⟩ : Dev nD) = rt c := Fin.ext ((by decide +kernel : ∀ c : Dev nD, k0_dev6 c = (rt c).val) c)
theorem dev7 (c : Dev nD) (h : k0_dev7 c < nD) : (⟨k0_dev7 c, h⟩ : Dev nD) = rt c := Fin.ext ((by decide +kernel : ∀ c : Dev nD, k0_dev7 c = (rt c).val) c)
theorem dev8 (c : Dev nD) (h : k0_dev8 c < nD) : (⟨k0_dev8 c, h⟩ : Dev nD) = rt c := Fin.ext ((by decide +kernel : ∀ c : Dev nD, k0_dev8 c = (rt c).val) c)
theorem dev9 (c : Dev nD) (h : k0_dev9 c < nD) : (⟨k0_dev9 c, h⟩ : Dev nD) = xp c := Fin.ext ((by decide +kernel : ∀ c : Dev nD, k0_dev9 c = (xp c).val) c)
theorem dev10 (c : Dev nD) (h : k0_dev10 c < nD) : (⟨k0_dev10 c, h⟩ : Dev nD) = zr c := Fin.ext ((by decide +kernel : ∀ c : Dev nD, k0_dev10 c = (zr c).val) c)
theorem dev11 (c : Dev nD) (h : k0_dev11 c < nD) : (⟨k0_dev11 c, h⟩ : Dev nD) = xp c := Fin.ext ((by decide +kernel : ∀ c : Dev nD, k0_dev11 c = (xp c).val) c)
theorem dev12 (c : Dev nD) (h : k0_dev12 c < nD) : (⟨k0_dev12 c, h⟩ : Dev nD) = zr c := Fin.ext ((by decide +kernel : ∀ c : Dev nD, k0_dev12 c = (zr c).val) c)
theorem dev13 (c : Dev nD) (h : k0_dev13 c < nD) : (⟨k0_dev13 c, h⟩ : Dev nD) = xp c := Fin.ext ((by decide +kernel : ∀ c : Dev nD, k0_dev13 c = (xp c).val) c)
theorem dev14 (c : Dev nD) (h : k0_dev14 c < nD) : (⟨k0_dev14 c, h⟩ : Dev nD) = zr c := Fin.ext ((by decide +kernel : ∀ c : Dev nD, k0_dev14 c = (zr c).val) c)
theorem dev15 (c : Dev nD) (h : k0_dev15 c < nD) : (⟨k0_dev15 c, h⟩ : Dev nD) = xp c := Fin.ext ((by decide +kernel : ∀ c : Dev nD, k0_dev15 c = (xp c).val) c)
theorem dev16 (c : Dev nD) (h : k0_dev16 c < nD) : (⟨k0_dev16 c, h⟩ : Dev nD) = lf c := Fin.ext ((by decide +kernel : ∀ c : Dev nD, k0_dev16 c = (lf c).val) c)
theorem dev17 (c : Dev nD) (h : k0_dev17 c < nD) : (⟨k0_dev17 c, h⟩ : Dev nD) = rt c := Fin.ext ((by decide +kernel : ∀ c : Dev nD, k0_dev17 c = (rt c).val) c)
theorem dev18 (c : Dev nD) (h : k0_dev18 c < nD) : (⟨k0_dev18 c, h⟩ : Dev nD) = zl c := Fin.ext ((by decide +kernel : ∀ c : Dev nD, k0_dev18 c = (zl c).val) c)
theorem dev19 (c : Dev nD) (h : k0_dev19 c < nD) : (⟨k0_dev19 c, h⟩ : Dev nD) = zr c := Fin.ext ((by decide +kernel : ∀ c : Dev nD, k0_dev19 c = (zr c).val) c)
theorem dev20 (c : Dev nD) (h : k0_dev20 c < nD) : (⟨k0_dev20 c, h⟩ : Dev nD) = xp c := Fin.ext ((by decide +kernel : ∀ c : Dev nD, k0_dev20 c = (xp c).val) c)

/-! ## The row blocks the kernel reads and writes -/

/-- The block of the operand a hop adds: row block `y'` of the device. -/
theorem off1_eq (c : Dev nD) : k0_off1 c = ![128 * ((c.val / 4 + 3) % 4), 0] := (by decide +kernel : ∀ c : Dev nD, k0_off1 c = ![128 * ((c.val / 4 + 3) % 4), 0]) c
theorem off2_eq0 (c : Dev nD) : k0_off2 c 0#32 = ![128 * ((c.val / 4 + 2) % 4), 0] := (by decide +kernel : ∀ c : Dev nD, k0_off2 c 0#32 = ![128 * ((c.val / 4 + 2) % 4), 0]) c
theorem off2_eq1 (c : Dev nD) : k0_off2 c 1#32 = ![128 * ((c.val / 4 + 1) % 4), 0] := (by decide +kernel : ∀ c : Dev nD, k0_off2 c 1#32 = ![128 * ((c.val / 4 + 1) % 4), 0]) c
theorem off2_eq2 (c : Dev nD) : k0_off2 c 2#32 = ![128 * ((c.val / 4) % 4), 0] := (by decide +kernel : ∀ c : Dev nD, k0_off2 c 2#32 = ![128 * ((c.val / 4) % 4), 0]) c

/-- The row of the result at which device `(x, y, z)`'s own block stands. -/
def row (c : Dev nD) : ℕ := 512 * (c.val / 16) + 128 * (c.val % 4)

theorem off3_eq (c : Dev nD) : k0_off3 c = ![row c, 0] := k0_off3_eq c
theorem off4_eq0 (c : Dev nD) : k0_off4 c 0#32 = ![row (xp c), 0] := (by decide +kernel : ∀ c : Dev nD, k0_off4 c 0#32 = ![row (xp c), 0]) c
theorem off4_eq1 (c : Dev nD) : k0_off4 c 1#32 = ![row (zl (xp c)), 0] := (by decide +kernel : ∀ c : Dev nD, k0_off4 c 1#32 = ![row (zl (xp c)), 0]) c
theorem off4_eq2 (c : Dev nD) : k0_off4 c 2#32 = ![row (zl (zl (xp c))), 0] := (by decide +kernel : ∀ c : Dev nD, k0_off4 c 2#32 = ![row (zl (zl (xp c))), 0]) c
theorem off4_eq3 (c : Dev nD) : k0_off4 c 3#32 = ![row (zl (zl (zl (xp c)))), 0] := (by decide +kernel : ∀ c : Dev nD, k0_off4 c 3#32 = ![row (zl (zl (zl (xp c)))), 0]) c
theorem off5_eq1 (c : Dev nD) : k0_off5 c 1#32 = ![row (zl c), 0] := (by decide +kernel : ∀ c : Dev nD, k0_off5 c 1#32 = ![row (zl c), 0]) c
theorem off5_eq2 (c : Dev nD) : k0_off5 c 2#32 = ![row (zl (zl c)), 0] := (by decide +kernel : ∀ c : Dev nD, k0_off5 c 2#32 = ![row (zl (zl c)), 0]) c
theorem off5_eq3 (c : Dev nD) : k0_off5 c 3#32 = ![row (zl (zl (zl c))), 0] := (by decide +kernel : ∀ c : Dev nD, k0_off5 c 3#32 = ![row (zl (zl (zl c))), 0]) c

/-! ## The semaphores the kernel names -/

theorem sem_ys0 : ((cc0_scratch1.slice (Rect.unit (s := S3) ![0] S1.size inb_S3_S1_0)).squeeze S_ squeezes_S1_S_).sem = 3 := rfl
theorem sem_ys1 : ((cc0_scratch1.slice (Rect.unit (s := S3) ![1] S1.size inb_S3_S1_1)).squeeze S_ squeezes_S1_S_).sem = 4 := rfl
theorem sem_ys2 : ((cc0_scratch1.slice (Rect.unit (s := S3) ![2] S1.size inb_S3_S1_2)).squeeze S_ squeezes_S1_S_).sem = 5 := rfl
theorem sem_yr0 : ((cc0_scratch2.slice (Rect.unit (s := S3) ![0] S1.size inb_S3_S1_0)).squeeze S_ squeezes_S1_S_).sem = 6 := rfl
theorem sem_yr1 : ((cc0_scratch2.slice (Rect.unit (s := S3) ![1] S1.size inb_S3_S1_1)).squeeze S_ squeezes_S1_S_).sem = 7 := rfl
theorem sem_yr2 : ((cc0_scratch2.slice (Rect.unit (s := S3) ![2] S1.size inb_S3_S1_2)).squeeze S_ squeezes_S1_S_).sem = 8 := rfl
theorem sem_zs0 : ((cc0_scratch4.slice (Rect.unit (s := S3) ![0] S1.size inb_S3_S1_0)).squeeze S_ squeezes_S1_S_).sem = 9 := rfl
theorem sem_zs1 : ((cc0_scratch4.slice (Rect.unit (s := S3) ![1] S1.size inb_S3_S1_1)).squeeze S_ squeezes_S1_S_).sem = 10 := rfl
theorem sem_zs2 : ((cc0_scratch4.slice (Rect.unit (s := S3) ![2] S1.size inb_S3_S1_2)).squeeze S_ squeezes_S1_S_).sem = 11 := rfl
theorem sem_zr0 : ((cc0_scratch5.slice (Rect.unit (s := S3) ![0] S1.size inb_S3_S1_0)).squeeze S_ squeezes_S1_S_).sem = 12 := rfl
theorem sem_zr1 : ((cc0_scratch5.slice (Rect.unit (s := S3) ![1] S1.size inb_S3_S1_1)).squeeze S_ squeezes_S1_S_).sem = 13 := rfl
theorem sem_zr2 : ((cc0_scratch5.slice (Rect.unit (s := S3) ![2] S1.size inb_S3_S1_2)).squeeze S_ squeezes_S1_S_).sem = 14 := rfl
theorem sem_xs0 : ((cc0_scratch7.slice (Rect.unit (s := S4) ![0] S1.size inb_S4_S1_0)).squeeze S_ squeezes_S1_S_).sem = 15 := rfl
theorem sem_xs1 : ((cc0_scratch7.slice (Rect.unit (s := S4) ![1] S1.size inb_S4_S1_1)).squeeze S_ squeezes_S1_S_).sem = 16 := rfl
theorem sem_xs2 : ((cc0_scratch7.slice (Rect.unit (s := S4) ![2] S1.size inb_S4_S1_2)).squeeze S_ squeezes_S1_S_).sem = 17 := rfl
theorem sem_xs3 : ((cc0_scratch7.slice (Rect.unit (s := S4) ![3] S1.size inb_S4_S1_3)).squeeze S_ squeezes_S1_S_).sem = 18 := rfl
theorem sem_xr0 : ((cc0_scratch8.slice (Rect.unit (s := S4) ![0] S1.size inb_S4_S1_0)).squeeze S_ squeezes_S1_S_).sem = 19 := rfl
theorem sem_xr1 : ((cc0_scratch8.slice (Rect.unit (s := S4) ![1] S1.size inb_S4_S1_1)).squeeze S_ squeezes_S1_S_).sem = 20 := rfl
theorem sem_xr2 : ((cc0_scratch8.slice (Rect.unit (s := S4) ![2] S1.size inb_S4_S1_2)).squeeze S_ squeezes_S1_S_).sem = 21 := rfl
theorem sem_xr3 : ((cc0_scratch8.slice (Rect.unit (s := S4) ![3] S1.size inb_S4_S1_3)).squeeze S_ squeezes_S1_S_).sem = 22 := rfl

end Cert.KernelIdeal.Proof

end
-- ==== Proof.Slots.lean ====
module

public import proofs.«01_k».proof.Proof.Mesh
public import Idealize.ShloMosaic.Lib.Exec.Geometry
public import Idealize.ShloMosaic.Lib.Writes

@[expose] public section

noncomputable section

namespace Cert.KernelIdeal.Proof

open Idealize.ShloMosaic
open Idealize.ShloMosaic.TcCoe
open Idealize.SL Idealize.SL.Sem
open Cert.KernelIdeal.Gen Cert.KernelIdeal

/-! ## The four slots of a communication buffer -/

theorem slot_inb {k : ℕ} (h : k < 4) : ∀ a, (![k, 0, 0] : Fin 3 → ℕ) a + S1x128x1024.size a ≤ S4x128x1024.size a := by
  intro a; fin_cases a
  · show k + 1 ≤ 4; omega
  · show 0 + 128 ≤ 128; omega
  · show 0 + 1024 ≤ 1024; omega

/-- Slot `k` as a rectangle of the buffer. -/
abbrev slotR (k : ℕ) (h : k < 4) : Rect S4x128x1024 := Rect.unit (s := S4x128x1024) ![k, 0, 0] S1x128x1024.size (slot_inb h)

/-- Slot `k` of a buffer, as the copies name it. -/
abbrev slotM (M : Memref sig .tc .vmem S4x128x1024 .bf16) (k : ℕ) (h : k < 4) : Memref sig .tc .vmem S128x1024 .bf16 :=
  (M.slice (slotR k h) (fun _ => rfl)).squeeze S128x1024 squeezes_S1x128x1024_S128x1024

/-- The three communication buffers. -/
abbrev yB : Memref sig .tc .vmem S4x128x1024 .bf16 := Memref.whole cc0_scratch0
abbrev zB : Memref sig .tc .vmem S4x128x1024 .bf16 := Memref.whole cc0_scratch3
abbrev xB : Memref sig .tc .vmem S4x128x1024 .bf16 := Memref.whole cc0_scratch6

/-- The elements of slot `k`: those whose first coordinate is `k`. -/
def slotS (k : ℕ) : Finset S4x128x1024.Idx := Finset.univ.filter fun i => (i 0).val = k

theorem slotR_set (k : ℕ) (h : k < 4) : (slotR k h).set = slotS k := by
  ext i
  simp only [slotS, Finset.mem_filter, Finset.mem_univ, true_and]
  rw [Rect.mem_set_unit]
  constructor
  · intro hi
    have h0 := hi 0
    have : k ≤ (i 0).val ∧ (i 0).val < k + 1 := h0
    omega
  · intro hi a
    fin_cases a
    · show k ≤ (i 0).val ∧ (i 0).val < k + 1; omega
    · exact ⟨Nat.zero_le _, by show (i 1).val < 0 + 128; have : (i 1).val < 128 := (i 1).isLt; omega⟩
    · exact ⟨Nat.zero_le _, by show (i 2).val < 0 + 1024; have : (i 2).val < 1024 := (i 2).isLt; omega⟩

/-! ## Contents of a slot -/

/-- An index of the buffer, as one of a slot. -/
def dropSlot (i : S4x128x1024.Idx) : S1x128x1024.Idx := fun a =>
  ⟨if a.val = 0 then 0 else (i a).val, by
    obtain ⟨a, ha⟩ := a
    match a, ha with
    | 0, _ => exact Nat.one_pos
    | 1, _ => exact (i 1).isLt
    | 2, _ => exact (i 2).isLt⟩

theorem dropSlot_emb (k : ℕ) (h : k < 4) (x : (slotR k h).shape.Idx) : dropSlot ((slotR k h).emb x) = x := by
  funext a
  apply Fin.ext
  obtain ⟨a, ha⟩ := a
  match a, ha with
  | 0, _ => show 0 = (x 0).val; have : (x 0).val < 1 := (x 0).isLt; omega
  | 1, _ => show 0 + 1 * (x 1).val = (x 1).val; omega
  | 2, _ => show 0 + 1 * (x 2).val = (x 2).val; omega

/-- The buffer holding `v` in every slot. -/
def spread {α : Type} (v : S1x128x1024.Idx → α) : S4x128x1024.Idx → α := fun i => v (dropSlot i)

theorem spread_emb {α : Type} (v : S1x128x1024.Idx → α) (k : ℕ) (h : k < 4) (x : (slotR k h).shape.Idx) :
    spread v ((slotR k h).emb x) = v x := congrArg v (dropSlot_emb k h x)

/-- The elements an access of slot `k` touches are those the copies name. -/
theorem access_set (M : Memref sig .tc .vmem S4x128x1024 .bf16) (k : ℕ) (h : k < 4) :
    (M.access (slotR k h)).set = (slotM M k h).view.set :=
  ((Memref.set_view_squeeze (M.slice (slotR k h) (fun _ => rfl)) squeezes_S1x128x1024_S128x1024)).symm

section
variable {F : FTy → Type} [FloatOps F]

theorem y_load (k : ℕ) (h : k < 4) (v : S1x128x1024.Idx → Elt F .bf16) : (yB.access (slotR k h)).read (Elt F) (spread v) = v :=
  funext fun x => spread_emb v k h x
theorem z_load (k : ℕ) (h : k < 4) (v : S1x128x1024.Idx → Elt F .bf16) : (zB.access (slotR k h)).read (Elt F) (spread v) = v :=
  funext fun x => spread_emb v k h x
theorem x_load (k : ℕ) (h : k < 4) (v : S1x128x1024.Idx → Elt F .bf16) : (xB.access (slotR k h)).read (Elt F) (spread v) = v :=
  funext fun x => spread_emb v k h x

theorem y_store (k : ℕ) (h : k < 4) (f : S4x128x1024.Idx → Elt F .bf16) (v : S1x128x1024.Idx → Elt F .bf16) :
    ∀ i ∈ (slotM yB k h).view.set, (yB.access (slotR k h)).write (Elt F) f v Finset.univ i = spread v i := by
  intro i hi
  rw [← access_set] at hi
  obtain ⟨x, -, rfl⟩ := Finset.mem_map.mp hi
  rw [View.write_emb_of_mem _ _ (Finset.mem_univ x)]
  exact (spread_emb v k h x).symm
theorem z_store (k : ℕ) (h : k < 4) (f : S4x128x1024.Idx → Elt F .bf16) (v : S1x128x1024.Idx → Elt F .bf16) :
    ∀ i ∈ (slotM zB k h).view.set, (zB.access (slotR k h)).write (Elt F) f v Finset.univ i = spread v i := by
  intro i hi
  rw [← access_set] at hi
  obtain ⟨x, -, rfl⟩ := Finset.mem_map.mp hi
  rw [View.write_emb_of_mem _ _ (Finset.mem_univ x)]
  exact (spread_emb v k h x).symm

/-- A copy between slots of the same buffer, and from the `z` buffer to the `x` buffer: what lands is what was read. -/
theorem yy_copy (k k' : ℕ) (h : k < 4) (h' : k' < 4) (f : S4x128x1024.Idx → Elt F .bf16) (v : S1x128x1024.Idx → Elt F .bf16) :
    ∀ i ∈ (slotM yB k' h').view.set,
      (slotM yB k' h').view.write (Elt F) f ((slotM yB k h).view.read (Elt F) (spread v)) Finset.univ i = spread v i := by
  intro i hi
  obtain ⟨x, -, rfl⟩ := Finset.mem_map.mp hi
  rw [View.write_emb_of_mem _ _ (Finset.mem_univ x)]
  exact (spread_emb v k h _).trans (spread_emb v k' h' _).symm
theorem zz_copy (k k' : ℕ) (h : k < 4) (h' : k' < 4) (f : S4x128x1024.Idx → Elt F .bf16) (v : S1x128x1024.Idx → Elt F .bf16) :
    ∀ i ∈ (slotM zB k' h').view.set,
      (slotM zB k' h').view.write (Elt F) f ((slotM zB k h).view.read (Elt F) (spread v)) Finset.univ i = spread v i := by
  intro i hi
  obtain ⟨x, -, rfl⟩ := Finset.mem_map.mp hi
  rw [View.write_emb_of_mem _ _ (Finset.mem_univ x)]
  exact (spread_emb v k h _).trans (spread_emb v k' h' _).symm
theorem zx_copy (k k' : ℕ) (h : k < 4) (h' : k' < 4) (f : S4x128x1024.Idx → Elt F .bf16) (v : S1x128x1024.Idx → Elt F .bf16) :
    ∀ i ∈ (slotM xB k' h').view.set,
      (slotM xB k' h').view.write (Elt F) f ((slotM zB k h).view.read (Elt F) (spread v)) Finset.univ i = spread v i := by
  intro i hi
  obtain ⟨x, -, rfl⟩ := Finset.mem_map.mp hi
  rw [View.write_emb_of_mem _ _ (Finset.mem_univ x)]
  exact (spread_emb v k h _).trans (spread_emb v k' h' _).symm

end

/-! ## A buffer is its four slots -/

theorem y_set (k : ℕ) (h : k < 4) : (slotM yB k h).view.set = slotS k :=
  ((access_set yB k h).symm.trans (View.set_slice_whole cc0_scratch0 (slotR k h))).trans (slotR_set k h)
theorem z_set (k : ℕ) (h : k < 4) : (slotM zB k h).view.set = slotS k :=
  ((access_set zB k h).symm.trans (View.set_slice_whole cc0_scratch3 (slotR k h))).trans (slotR_set k h)
theorem x_set (k : ℕ) (h : k < 4) : (slotM xB k h).view.set = slotS k :=
  ((access_set xB k h).symm.trans (View.set_slice_whole cc0_scratch6 (slotR k h))).trans (slotR_set k h)

theorem slotS_disjoint {k k' : ℕ} (h : k ≠ k') : Disjoint (slotS k) (slotS k') := by
  rw [Finset.disjoint_left]
  intro i hi hi'
  simp only [slotS, Finset.mem_filter, Finset.mem_univ, true_and] at hi hi'
  omega

theorem slotS_univ : (Finset.univ : Finset S4x128x1024.Idx) = slotS 0 ∪ (slotS 1 ∪ (slotS 2 ∪ slotS 3)) := by
  ext i
  have : (i 0).val < 4 := (i 0).isLt
  simp only [slotS, Finset.mem_union, Finset.mem_filter, Finset.mem_univ, true_and, true_iff]
  omega

end Cert.KernelIdeal.Proof

end
-- ==== Proof.Proto.lean ====
module

public import proofs.«01_k».proof.Proof.Slots
public import Idealize.ShloMosaic.Lib.Pipeline.Regions
public import Idealize.ShloMosaic.Lib.Pipeline.Kit
public import Idealize.ShloMosaic.Lib.Rounds
public import Idealize.ShloMosaic.Lib.Rounds.Family
public import Idealize.ShloMosaic.Lib.StableHlo
public import Idealize.ShloMosaic.Lib.Tactic
public import Idealize.ShloMosaic.Lib.Pipeline.RegionTalk

@[expose] public section

noncomputable section

namespace Cert.KernelIdeal.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal

variable {F : FTy → Type} [FloatOps F]

/-! ## What each device computes, from the operands of all devices -/

section Contents

-- every device's row blocks and scale, as the region finds them
variable (P : Dev nD → S512x1024.Idx → Elt F .bf16) (G : Dev nD → S1x1024.Idx → Elt F .bf16)

/-- A row block of the operand. -/
def chunk {α : Type} (f : S512x1024.Idx → α) (off : Fin 2 → ℕ) (h : ∀ a, off a + S128x1024.size a ≤ S512x1024.size a) :
    S128x1024.Idx → α := fun x => f ((Rect.unit (s := S512x1024) off S128x1024.size h).emb x)

/-- What device `c` sends along `y` at hops 0, 1, 2. -/
def u0 (c : Dev nD) : S1x128x1024.Idx → Elt F .bf16 := k0_pay1 (chunk (P c) (k0_off1 c) (k0_off1_inb c))
def u1 (c : Dev nD) : S1x128x1024.Idx → Elt F .bf16 :=
  k0_pay2 (u0 P (lf c)) (chunk (P c) (k0_off2 c 0#32) (k0_off2_inb c 0))
def u2 (c : Dev nD) : S1x128x1024.Idx → Elt F .bf16 :=
  k0_pay3 (u1 P (lf c)) (chunk (P c) (k0_off2 c 1#32) (k0_off2_inb c 1))
/-- The block of the result device `c` computes, -/
def rs (c : Dev nD) : S128x1024.Idx → Elt F .f32 :=
  k0_pay4 (u2 P (lf c)) (chunk (P c) (k0_off2 c 2#32) (k0_off2_inb c 2)) (G c)
/-- and as it sends it on. -/
def zv (c : Dev nD) : S1x128x1024.Idx → Elt F .bf16 :=
  k0_pay6 (k0_pay5 (u2 P (lf c)) (chunk (P c) (k0_off2 c 2#32) (k0_off2_inb c 2)) (G c))

end Contents

/-! ## The resource algebra: the pipeline's copy and the protocol's -/

abbrev UU : Type := UR sig nD τ × URounds (GSem nD τ sig) (Fin 5)

local notation "𝕄" => MT nD τ sig Unit (Elt F) ℕ UU ℕ

abbrev EP : Emb (UR sig nD τ) (MT nD τ sig Unit (Elt F) ℕ UU ℕ) := embL
abbrev ER : Emb (URounds (GSem nD τ sig) (Fin 5)) (MT nD τ sig Unit (Elt F) ℕ UU ℕ) := embR

/-! ## Cells and slots -/

/-- Device `c`'s regular semaphore `s` (0 the barrier, 1 the second barrier) and its transfer semaphore `n`. -/
abbrev gR (c : Dev nD) (s : Fin 2) : GSem nD τ sig := ((c : Thread nD τ), .reg s)
abbrev gD (c : Dev nD) (n : Fin 23) : GSem nD τ sig := ((c : Thread nD τ), .dma n)

/-- What one slot's copy credits. -/
abbrev N : ℕ := (slotM yB 0 (by decide)).view.dmaCredit
theorem N_pos : 0 < N := View.dmaCredit_pos _ (by decide)

/-- Device `c`'s slot `k` of a buffer, at share `q`, holding `v`; and holding anything. -/
abbrev yPt (c : Dev nD) (k : ℕ) (h : k < 4) (v : S1x128x1024.Idx → Elt F .bf16) : sProp 𝕄 :=
  (slotM yB k h).view.loc (c : Thread nD τ) ↦[(slotM yB k h).view.set]{fullShare} (spread v)
abbrev zPt (c : Dev nD) (k : ℕ) (h : k < 4) (q : PosShare TreeShare) (v : S1x128x1024.Idx → Elt F .bf16) : sProp 𝕄 :=
  (slotM zB k h).view.loc (c : Thread nD τ) ↦[(slotM zB k h).view.set]{q} (spread v)
abbrev xPt (c : Dev nD) (k : ℕ) (h : k < 4) (v : S1x128x1024.Idx → Elt F .bf16) : sProp 𝕄 :=
  (slotM xB k h).view.loc (c : Thread nD τ) ↦[(slotM xB k h).view.set]{fullShare} (spread v)
abbrev yAny (c : Dev nD) (k : ℕ) (h : k < 4) : sProp 𝕄 :=
  iprop(∃ f, (slotM yB k h).view.loc (c : Thread nD τ) ↦[(slotM yB k h).view.set]{fullShare} f)
abbrev zAny (c : Dev nD) (k : ℕ) (h : k < 4) : sProp 𝕄 :=
  iprop(∃ f, (slotM zB k h).view.loc (c : Thread nD τ) ↦[(slotM zB k h).view.set]{fullShare} f)
abbrev xAny (c : Dev nD) (k : ℕ) (h : k < 4) : sProp 𝕄 :=
  iprop(∃ f, (slotM xB k h).view.loc (c : Thread nD τ) ↦[(slotM xB k h).view.set]{fullShare} f)

abbrev qL : PosShare TreeShare := fullShare.left
abbrev qR : PosShare TreeShare := fullShare.right

/-! ## The schedule -/

/-- The neighbours in the order the kernel signals them. -/
def nb (c : Dev nD) : Fin 5 → Dev nD
  | 0 => lf c | 1 => rt c | 2 => zl c | 3 => zr c | 4 => xp c

/-- What the right neighbour along `y`, the one along `z` and the one across `x` hand over at the barrier: the slots the
    device's copies land in, and that their arrival semaphores are open. -/
def yFree (p : Dev nD) : sProp 𝕄 :=
  iprop(yAny p 1 (by decide) ∗ yAny p 2 (by decide) ∗ yAny p 3 (by decide)
    ∗ reached ER (gD p 6) 0 ∗ reached ER (gD p 7) 0 ∗ reached ER (gD p 8) 0)
def zFree (p : Dev nD) : sProp 𝕄 :=
  iprop(zAny p 1 (by decide) ∗ zAny p 2 (by decide) ∗ zAny p 3 (by decide)
    ∗ reached ER (gD p 12) 0 ∗ reached ER (gD p 13) 0 ∗ reached ER (gD p 14) 0)
def xFree (p : Dev nD) : sProp 𝕄 :=
  iprop(xAny p 0 (by decide) ∗ xAny p 1 (by decide) ∗ xAny p 2 (by decide) ∗ xAny p 3 (by decide)
    ∗ reached ER (gD p 19) 0 ∗ reached ER (gD p 20) 0 ∗ reached ER (gD p 21) 0 ∗ reached ER (gD p 22) 0)

/-- What neighbour `d` pays device `c`'s barrier with. -/
def barPay (c : Dev nD) : Fin 5 → sProp 𝕄
  | 0 => reached ER (gR (lf c) 1) 0
  | 1 => iprop(reached ER (gR (rt c) 1) 0 ∗ yFree (rt c))
  | 2 => reached ER (gR (zl c) 1) 0
  | 3 => iprop(reached ER (gR (zr c) 1) 0 ∗ zFree (zr c))
  | 4 => iprop(reached ER (gR (xp c) 1) 0 ∗ xFree (xp c))

variable (P : Dev nD → S512x1024.Idx → Elt F .bf16) (G : Dev nD → S1x1024.Idx → Elt F .bf16)

/-- What the transfer semaphore `n` of device `c` is credited with: 3–5, 9–11, 15–18 the sent slots back, 6–8, 12–14, 19–22
    the slots landed in, at what landed. -/
def dmaPay (c : Dev nD) : ℕ → sProp 𝕄
  | 3 => yPt c 0 (by decide) (u0 P c)
  | 4 => yPt c 1 (by decide) (u1 P c)
  | 5 => yPt c 2 (by decide) (u2 P c)
  | 6 => yPt c 1 (by decide) (u0 P (lf c))
  | 7 => yPt c 2 (by decide) (u1 P (lf c))
  | 8 => yPt c 3 (by decide) (u2 P (lf c))
  | 9 => zPt c 0 (by decide) qL (zv P G c)
  | 10 => zPt c 1 (by decide) qL (zv P G (zl c))
  | 11 => zPt c 2 (by decide) qL (zv P G (zl (zl c)))
  | 12 => zPt c 1 (by decide) fullShare (zv P G (zl c))
  | 13 => zPt c 2 (by decide) fullShare (zv P G (zl (zl c)))
  | 14 => zPt c 3 (by decide) fullShare (zv P G (zl (zl (zl c))))
  | 15 => zPt c 0 (by decide) qR (zv P G c)
  | 16 => zPt c 1 (by decide) qR (zv P G (zl c))
  | 17 => zPt c 2 (by decide) qR (zv P G (zl (zl c)))
  | 18 => zPt c 3 (by decide) fullShare (zv P G (zl (zl (zl c))))
  | 19 => xPt c 0 (by decide) (zv P G (xp c))
  | 20 => xPt c 1 (by decide) (zv P G (zl (xp c)))
  | 21 => xPt c 2 (by decide) (zv P G (zl (zl (xp c))))
  | 22 => xPt c 3 (by decide) (zv P G (zl (zl (zl (xp c)))))
  | _ => iprop(emp)

def payS (c : Dev nD) : SemLoc sig → Fin 5 → sProp 𝕄
  | .reg s, d => if s.val = 0 then barPay c d else iprop(emp)
  | .dma n, _ => dmaPay P G c n.val

def dutyS : SemLoc sig → Finset (Fin 5)
  | .reg _ => Finset.univ
  | .dma n => if 3 ≤ n.val then {0} else ∅

def amtS : SemLoc sig → ℕ
  | .reg _ => 1
  | .dma _ => N

/-- One round everywhere. -/
def Rd : Rounds.Schedule (GSem nD τ sig) (Fin 5) 𝕄 where
  duties g r := if r = 0 ∧ g.1.2 = .tc then dutyS g.2 else ∅
  unitless _ := False
  amount g _ _ := amtS g.2
  payload g _ d := payS P G g.1.1 g.2 d
  amount_pos g _ _ _ := by
    cases h : g.2 with
    | reg s => exact Nat.one_pos
    | dma n => exact N_pos

section
set_option synthInstance.maxHeartbeats 400000
instance yFree_storable (c : Dev nD) : BI.Storable (upEmb : UEmb _ 𝕄) (yFree (F := F) c) := by unfold yFree; infer_instance
instance zFree_storable (c : Dev nD) : BI.Storable (upEmb : UEmb _ 𝕄) (zFree (F := F) c) := by unfold zFree; infer_instance
instance xFree_storable (c : Dev nD) : BI.Storable (upEmb : UEmb _ 𝕄) (xFree (F := F) c) := by unfold xFree; infer_instance
end

instance barPay_storable (c : Dev nD) (d : Fin 5) : BI.Storable (upEmb : UEmb _ 𝕄) (barPay (F := F) c d) := by
  unfold barPay
  split <;> infer_instance

instance dmaPay_storable (c : Dev nD) (n : ℕ) : BI.Storable (upEmb : UEmb _ 𝕄) (dmaPay P G c n) := by
  unfold dmaPay
  split <;> infer_instance

instance Rd_storable (g : GSem nD τ sig) (r : ℕ) (d : Fin 5) :
    BI.Storable (upEmb : UEmb _ 𝕄) ((Rd P G).payload g r d) := by
  show BI.Storable upEmb (payS P G g.1.1 g.2 d)
  unfold payS
  (repeat' split) <;> infer_instance

theorem duties_reg (c : Dev nD) (s : Fin 2) : (Rd P G).duties (gR c s) 0 = Finset.univ := by
  dsimp only [Rd]; exact if_pos ⟨rfl, rfl⟩
theorem duties_dma (c : Dev nD) (n : Fin 23) (h : 3 ≤ n.val) : (Rd P G).duties (gD c n) 0 = {0} := by
  dsimp only [Rd]; exact (if_pos ⟨rfl, rfl⟩).trans (if_pos h)
theorem duties_later (g : GSem nD τ sig) : ∀ r, 1 ≤ r → (Rd P G).duties g r = ∅ :=
  fun r hr => by dsimp only [Rd]; exact if_neg fun h => by omega
theorem expect_reg (c : Dev nD) (s : Fin 2) : (Rd P G).expect (gR c s) 0 = 5 := by
  unfold Schedule.expect Schedule.amountOf; rw [duties_reg]; rfl
theorem expect_dma (c : Dev nD) (n : Fin 23) (h : 3 ≤ n.val) : (Rd P G).expect (gD c n) 0 = N := by
  unfold Schedule.expect Schedule.amountOf; rw [duties_dma P G c n h, Finset.sum_singleton]; rfl

theorem rest_dma (c : Dev nD) (n : Fin 23) (h : 3 ≤ n.val) :
    bigSep ((Rd P G).duties (gD c n) 0 \ ∅) (fun u => (Rd P G).payload (gD c n) 0 u) = dmaPay P G c n.val := by
  rw [Finset.sdiff_empty, duties_dma P G c n h, bigSep_singleton]; rfl

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem rest_bar (c : Dev nD) :
    bigSep ((Rd P G).duties (gR c 0) 0 \ ∅) (fun u => (Rd P G).payload (gR c 0) 0 u)
      = iprop(barPay c 0 ∗ barPay c 1 ∗ barPay c 2 ∗ barPay c 3 ∗ barPay c 4) := by
  rw [Finset.sdiff_empty, duties_reg, bigSep_five]; rfl

/-! ## What a device owes, and the levels -/

/-- A list of payments — whose semaphore, which, how much — as a tally; the first is paid first. -/
def owe : List (Dev nD × SemLoc sig × ℕ) → CellTallies nD τ sig Unit
  | [] => 0
  | p :: l => owe l + tallyAt ((p.1 : Thread nD τ), p.2.1) () p.2.2

/-- The levels: what is waited for later stands higher. -/
def lvS : SemLoc sig → ℕ
  | .reg s => if s.val = 0 then 1 else 40
  | .dma n => if 6 ≤ n.val ∧ n.val < 9 then n.val else if 12 ≤ n.val ∧ n.val < 15 then n.val
      else if 19 ≤ n.val then n.val else 0

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {l : List (Dev nD × SemLoc sig × ℕ)} {g : GSem nD τ sig} {u : Unit} (h : 0 < owe l g u) :
    ∃ p ∈ l, g = ((p.1 : Thread nD τ), p.2.1) := by
  induction l with
  | nil => exact absurd h (Nat.lt_irrefl 0)
  | cons p l ih =>
    have h' : 0 < owe l g u + tallyAt ((p.1 : Thread nD τ), p.2.1) () p.2.2 g u := h
    rw [tallyAt_apply] at h'
    by_cases hg : g = ((p.1 : Thread nD τ), p.2.1) ∧ u = ()
    · exact ⟨p, List.mem_cons_self, hg.1⟩
    · rw [if_neg hg] at h'
      obtain ⟨q, hq, e⟩ := ih h'
      exact ⟨q, List.mem_cons_of_mem _ hq, e⟩

/-- A wait on `sm` is safe while every payment still owed stands higher. -/
theorem mayWait (c : Dev nD) (sm : SemLoc sig) (l : List (Dev nD × SemLoc sig × ℕ))
    (h : (l.all fun p => Nat.blt (lvS sm) (lvS p.2.1)) = true) :
    (levAts L lv : sProp 𝕄) ⊢ MayWait (c : Thread nD τ) sm () (owe l) :=
  MayOwe.of_cut (L := L) (lev := lv) (lvS sm)
    (fun p hp => by rw [Finset.mem_singleton.mp hp, L_tc]; exact Finset.mem_singleton_self _)
    (fun g u hg => by obtain ⟨p, -, e⟩ := owe_pos hg; rw [e, L_tc]; exact Finset.mem_singleton_self _)
    (fun p hp => by rw [Finset.mem_singleton.mp hp]; exact le_rfl)
    (fun g u hg => by
      obtain ⟨p, hp, e⟩ := owe_pos hg
      rw [e]
      exact Nat.le_of_ble_eq_true (List.all_eq_true.mp h p hp))

end Cert.KernelIdeal.Proof

end
-- ==== Proof.Steps.lean ====
module

public import proofs.«01_k».proof.Proof.Proto

@[expose] public section

noncomputable section

namespace Cert.KernelIdeal.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal

variable {F : FTy → Type} [FloatOps F]

local notation "𝕄" => MT nD τ sig Unit (Elt F) ℕ UU ℕ

variable (P : Dev nD → S512x1024.Idx → Elt F .bf16) (G : Dev nD → S1x1024.Idx → Elt F .bf16)

/-! ## The cells of all devices, and what every device knows of them -/

/-- The semaphores the kernel allocates for itself: the second barrier and the transfers'. -/
abbrev osem : Fin 21 → SemLoc sig := fun k => if h : k.val = 0 then .reg 1 else .dma (⟨k.val + 2, by omega⟩ : Fin 23)

theorem osem_inj : Function.Injective osem := by decide

/-- The barrier cells, counters at zero from the launch on. -/
def barCells : Finset (GSem nD τ sig) := Finset.univ.map ⟨fun c : Dev nD => gR c 0, fun a b h => congrArg (fun g : GSem nD τ sig => g.1.1) h⟩
/-- The cells each device opens when the kernel starts. -/
def ownCells : Finset (GSem nD τ sig) :=
  Finset.univ.map ⟨fun p : Dev nD × Fin 21 => (((p.1 : Dev nD) : Thread nD τ), osem p.2),
    fun a b h => Prod.ext (congrArg (fun g : GSem nD τ sig => g.1.1) h) (osem_inj (congrArg (fun g : GSem nD τ sig => g.2) h))⟩

theorem mem_bar (c : Dev nD) : gR c 0 ∈ barCells := Finset.mem_map.mpr ⟨c, Finset.mem_univ _, rfl⟩
theorem mem_own (c : Dev nD) (k : Fin 21) : ((c : Thread nD τ), osem k) ∈ ownCells := Finset.mem_map.mpr ⟨(c, k), Finset.mem_univ _, rfl⟩

/-- The invariants of all cells at the names `K`, that every barrier is open, and the levels. -/
def known (K : GSem nD τ sig → ℕ) : sProp 𝕄 :=
  iprop((bigSep (barCells ∪ ownCells) fun g => cellInv ER (Rd P G) (K g) g) ∗ (bigSep barCells fun g => reached ER g 0) ∗ levAts L lv)

instance known_persistent (K : GSem nD τ sig → ℕ) : BI.Persistent (known P G K) := by unfold known; infer_instance

variable {P G} {K : GSem nD τ sig → ℕ}

theorem known_inv {g : GSem nD τ sig} (h : g ∈ barCells ∪ ownCells) : known P G K ⊢ cellInv ER (Rd P G) (K g) g := by
  have h1 : known P G K ⊢ bigSep (barCells ∪ ownCells) fun g => cellInv ER (Rd P G) (K g) g := by
    unfold known
    iintro ⟨H, -, -⟩; iexact H
  exact h1.trans (bigSep_elim h)
theorem known_bar (c : Dev nD) : known P G K ⊢ reached ER (gR c 0) 0 := by
  have h1 : known P G K ⊢ bigSep barCells fun g => reached ER g 0 := by
    unfold known
    iintro ⟨-, H, -⟩; iexact H
  exact h1.trans (bigSep_elim (mem_bar c))
theorem known_lev : known P G K ⊢ levAts L lv := by
  unfold known
  iintro ⟨-, -, H⟩; iexact H
theorem known_mayWait (c : Dev nD) (sm : SemLoc sig) (l : List (Dev nD × SemLoc sig × ℕ))
    (h : (l.all fun p => Nat.blt (lvS sm) (lvS p.2.1)) = true) : known P G K ⊢ MayWait (c : Thread nD τ) sm () (owe l) :=
  known_lev.trans (mayWait c sm l h)
theorem known_R0 (c : Dev nD) : known P G K ⊢ cellInv ER (Rd P G) (K (gR c 0)) (gR c 0) :=
  known_inv (Finset.mem_union_left _ (mem_bar c))
theorem known_R1 (c : Dev nD) : known P G K ⊢ cellInv ER (Rd P G) (K (gR c 1)) (gR c 1) :=
  known_inv (Finset.mem_union_right _ (mem_own c 0))
theorem known_R (c : Dev nD) (s : Fin 2) : known P G K ⊢ cellInv ER (Rd P G) (K (gR c s)) (gR c s) := by
  fin_cases s
  · exact known_R0 c
  · exact known_R1 c
theorem mem_D (c : Dev nD) (n : Fin 23) (h : 3 ≤ n.val) : gD c n ∈ ownCells :=
  Finset.mem_map.mpr ⟨(c, ⟨n.val - 2, by omega⟩), Finset.mem_univ _, Prod.ext rfl (by
    show osem ⟨n.val - 2, _⟩ = _
    unfold osem
    rw [dif_neg (by show ¬ n.val - 2 = 0; omega)]
    exact congrArg SemLoc.dma (Fin.ext (by show n.val - 2 + 2 = n.val; omega)))⟩
theorem known_D (c : Dev nD) (n : Fin 23) (h : 3 ≤ n.val) : known P G K ⊢ cellInv ER (Rd P G) (K (gD c n)) (gD c n) :=
  known_inv (Finset.mem_union_right _ (mem_D c n h))

/-- What device `c` still owes, whatever it has waited on. -/
def owing (c : Dev nD) (l : List (Dev nD × SemLoc sig × ℕ)) : sProp 𝕄 := iprop(∃ W, owes (c : Thread nD τ) (owe l) W)

abbrev 𝒱₀ : Variants := Variants.none

/-! ## The kernel's communication steps under this protocol -/

section Steps

variable {α : Type} {Q : α → sProp (MT nD τ sig Unit (Elt F) ℕ UU ℕ)}

/-- A unit to a neighbour's barrier, the first payment still owed. -/
theorem step_signal (c p : Dev nD) (s : Fin 2) (d : Fin 5) (l : List (Dev nD × SemLoc sig × ℕ))
    {p' : Dev nD} {s' : Fin 2} (hp : p' = p) (hs : s' = s)
    {k : PUnit → Prog (TpuEff nD τ sig (Elt F) Λ₀ .tc) α} :
    iprop(known P G K ∗ owing c ((p, .reg s, 1) :: l) ∗ dutyTok ER (gR p s) 0 d ∗ payS P G p (.reg s) d ∗ reached ER (gR p s) 0)
      ⊢ iprop((owing c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((p' : Dev nD), .tc) s' (1#32 : BitVec 32).toInt) k) Q) := by
  subst hp hs
  unfold owing
  iintro ⟨#Hk, ⟨%W, HO⟩, Ht, Hp, Hr⟩ Hc
  iapply (Rounds.wp_signal 𝒱₀ ER (Rd P G) (c : Thread nD τ) none (dst := (p' : Thread nD τ)) (sem := s') (r := 0) (d := d) (k' := 1) (κ := K (gR p' s'))
      (by rw [duties_reg]; exact Finset.mem_univ _) rfl () (owe l) (by rfl) (W := W)) $$ [HO Ht Hp Hr]
  · isplitr; · iapply (known_R p' s'); iexact Hk
    isplitl [HO]; · iexact HO
    isplitl [Ht]; · iexact Ht
    isplitl [Hp]; · iapply (Entails.of_eq (show payS P G p' (.reg s') d = (Rd P G).payload ((p' : Thread nD τ), .reg s') 0 d from rfl)); iexact Hp
    iexact Hr
  iintro HO
  iapply Hc
  iexists W; iexact HO

/-- The wait for all five neighbours. -/
theorem step_wait_reg (c : Dev nD) (s : Fin 2) (l : List (Dev nD × SemLoc sig × ℕ)) {s' : Fin 2} (hs : s' = s)
    (h : (l.all fun p => Nat.blt (lvS (.reg s)) (lvS p.2.1)) = true)
    {k : PUnit → Prog (TpuEff nD τ sig (Elt F) Λ₀ .tc) α} :
    iprop(known P G K ∗ cred (tallyAt (gR c s) () 5) ∗ owing c l ∗ atPos ER (gR c s) 0 ∅ 0)
      ⊢ iprop(((owing c l ∗ atPos ER (gR c s) 1 ∅ 0
            ∗ bigSep ((Rd P G).duties (gR c s) 0 \ ∅) (fun u => (Rd P G).payload (gR c s) 0 u))
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait s' (5#32 : BitVec 32).toInt) k) Q) := by
  subst hs
  unfold owing
  iintro ⟨#Hk, Hcr, ⟨%W, HO⟩, Hat⟩ Hc
  iapply (Rounds.wp_wait_rest_token 𝒱₀ ER (Rd P G) (c : Thread nD τ) none (κ := K (gR c s'))
      (wpE_semWait_eq (k := 5) 𝒱₀ (c : Thread nD τ) none Set.univ) (Set.mem_univ _) () (O := owe l) (W := W) (R := 0) (m := 0) (T := ∅)
      ((Nat.zero_add _).trans (expect_reg P G c s').symm)) $$ [Hcr HO Hat]
  · isplitr; · iapply (known_R c s'); iexact Hk
    isplitl [Hcr]; · iexact Hcr
    isplitl [HO]; · iexact HO
    isplitr; · iapply (known_mayWait c (.reg s') l h); iexact Hk
    iexact Hat
  iintro ⟨HO, Hat, -, Hp⟩
  iapply Hc
  isplitl [HO]; · iexists _; iexact HO
  isplitl [Hat]; · iexact Hat
  iexact Hp

/-- The wait for a transfer: what it was credited with comes back. -/
theorem step_wait_dma (c : Dev nD) (n : Fin 23) (hn : 3 ≤ n.val) (l : List (Dev nD × SemLoc sig × ℕ)) {n' : DmaSem sig} (e : n' = n)
    (h : (l.all fun p => Nat.blt (lvS (.dma n)) (lvS p.2.1)) = true)
    {sp sp' : Space} {s s' : Shape} {t t' : EltTy} {src : Memref sig .tc sp' s' t'} {dst : Memref sig .tc sp s t}
    {hsrc : src.view.WordExact} {hdst : dst.view.WordExact} (hN : dst.view.dmaCredit = N)
    {k : PUnit → Prog (TpuEff nD τ sig (Elt F) Λ₀ .tc) α} :
    iprop(known P G K ∗ cred (tallyAt (gD c n) () N) ∗ owing c l ∗ atPos ER (gD c n) 0 ∅ 0)
      ⊢ iprop(((owing c l ∗ atPos ER (gD c n) 1 ∅ 0 ∗ dmaPay P G c n.val)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 n' src dst hsrc hdst) k) Q) := by
  subst e
  unfold owing
  iintro ⟨#Hk, Hcr, ⟨%W, HO⟩, Hat⟩ Hc
  iapply (Rounds.wp_wait_rest_token 𝒱₀ ER (Rd P G) (c : Thread nD τ) none (κ := K (gD c n')) (k' := N)
      (by intro K'; rw [wpE_waitDma2_eq, hN]) (Set.mem_univ _) () (O := owe l) (W := W) (R := 0) (m := 0) (T := ∅)
      ((Nat.zero_add _).trans (expect_dma P G c n' hn).symm)) $$ [Hcr HO Hat]
  · isplitr; · iapply (known_D c n' hn); iexact Hk
    isplitl [Hcr]; · iexact Hcr
    isplitl [HO]; · iexact HO
    isplitr; · iapply (known_mayWait c (.dma n') l h); iexact Hk
    iexact Hat
  iintro ⟨HO, Hat, -, Hp⟩
  iapply Hc
  isplitl [HO]; · iexists _; iexact HO
  isplitl [Hat]; · iexact Hat
  ihave Hp := (Entails.of_eq (rest_dma P G c n' hn)) $$ Hp
  iexact Hp

/-- A copy into a neighbour's slot: it pays the neighbour's arrival semaphore `nr` — the next payment owed — with the slot as
    the copy leaves it, and the own departure semaphore `ns` with the source back. -/
theorem step_send (c p : Dev nD) (ns nr : Fin 23) (hs : 3 ≤ ns.val) (hr : 3 ≤ nr.val) (l : List (Dev nD × SemLoc sig × ℕ))
    {p' : Dev nD} {ns' nr' : DmaSem sig} (hp : p' = p) (es : ns' = ns) (er : nr' = nr)
    {src dst : Memref sig .tc .vmem S128x1024 .bf16} {hsc : dst.view.ref.isScScratch = false}
    {hsrc : src.view.WordExact} {hdst : dst.view.WordExact}
    {hsem : DmaTarget.Typed .vmem (SemLoc.dma nr' : SemLoc sig) (.remote (p' : Thread nD τ) dst (.dma ns') hsc)}
    {q : PosShare TreeShare} {fs : Buf (Elt F) (src.view.loc (c : Thread nD τ))} {fd : Buf (Elt F) (dst.view.loc (p : Thread nD τ))}
    (hN : dst.view.dmaCredit = N)
    (h1 : (src.view.loc (c : Thread nD τ) ↦[src.view.set]{q} fs) ⊢ dmaPay P G c ns.val)
    (h2 : (dst.view.loc (p : Thread nD τ) ↦[dst.view.set]{fullShare} (dst.view.write (Elt F) fd (src.view.read (Elt F) fs) Finset.univ))
      ⊢ dmaPay P G p nr.val)
    {k : PUnit → Prog (TpuEff nD τ sig (Elt F) Λ₀ .tc) α} :
    iprop(known P G K ∗ (src.view.loc (c : Thread nD τ) ↦[src.view.set]{q} fs) ∗ (dst.view.loc (p : Thread nD τ) ↦[dst.view.set]{fullShare} fd)
        ∗ owing c ((p, .dma nr, N) :: l)
        ∗ dutyTok ER (gD c ns) 0 0 ∗ reached ER (gD c ns) 0 ∗ dutyTok ER (gD p nr) 0 0 ∗ reached ER (gD p nr) 0)
      ⊢ iprop(((cred (tallyAt (gD c ns) () N) ∗ owing c l)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (p' : Thread nD τ) dst (.dma ns') hsc) (.dma nr') hsrc hdst hsem) k) Q) := by
  subst hp es er
  unfold owing
  iintro ⟨#Hk, Hsrc, Hdst, ⟨%W, HO⟩, Hts, Hrs, Htr, Hrr⟩ Hc
  iapply (Rounds.wp_send_pointsTo 𝒱₀ ER (Rd P G) (c : Thread nD τ) none (c' := (p' : Thread nD τ)) (src := src) (dst := dst)
      (sS := .dma ns') (sem := .dma nr') (q := q) (fs := fs) (κ₁ := K (gD c ns')) (κ₂ := K (gD p' nr'))
      (r₁ := 0) (r₂ := 0) (d₁ := 0) (d₂ := 0) (fd := fd)
      (by rw [duties_dma P G c ns' hs]; exact Finset.mem_singleton_self _) (by rw [duties_dma P G p' nr' hr]; exact Finset.mem_singleton_self _)
      () () N hN rfl rfl (owe l) rfl (W := W) h1 h2) $$ [Hsrc Hdst HO Hts Hrs Htr Hrr]
  · isplitr; · iapply (known_D c ns' hs); iexact Hk
    isplitr; · iapply (known_D p' nr' hr); iexact Hk
    isplitl [Hsrc]; · iexact Hsrc
    isplitl [Hdst]; · iexact Hdst
    isplitl [HO]; · iexact HO
    isplitl [Hts]; · iexact Hts
    isplitl [Hrs]; · iexact Hrs
    isplitl [Htr]; · iexact Htr
    iexact Hrr
  iintro ⟨Hcr, HO⟩
  iapply Hc
  isplitl [Hcr]; · iexact Hcr
  iexists W; iexact HO

end Steps

end Cert.KernelIdeal.Proof

end
-- ==== Proof.Moves.lean ====
module

public import proofs.«01_k».proof.Proof.Steps

@[expose] public section

noncomputable section

namespace Cert.KernelIdeal.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal

variable {F : FTy → Type} [FloatOps F]

local notation "𝕄" => MT nD τ sig Unit (Elt F) ℕ UU ℕ

/-! ## The operand's, the scale's and the result's staging buffers -/

abbrev pB : Memref sig .tc .vmem S512x1024 .bf16 := Memref.whole cc0_stg0_0
abbrev gB : Memref sig .tc .vmem S1x1024 .bf16 := Memref.whole cc0_stg1_0
abbrev oB : Memref sig .tc .vmem S1024x1024 .f32 := Memref.whole cc0_stg2_0

abbrev pPt (c : Dev nD) (f : S512x1024.Idx → Elt F .bf16) : sProp 𝕄 := pB.view.loc (c : Thread nD τ) ↦[Finset.univ]{fullShare} f
abbrev gPt (c : Dev nD) (f : S1x1024.Idx → Elt F .bf16) : sProp 𝕄 := gB.view.loc (c : Thread nD τ) ↦[Finset.univ]{fullShare} f
abbrev oPt (c : Dev nD) (f : S1024x1024.Idx → Elt F .f32) : sProp 𝕄 := oB.view.loc (c : Thread nD τ) ↦[Finset.univ]{fullShare} f

/-- The result buffer after a row block is stored at `off`. -/
def put (f : S1024x1024.Idx → Elt F .f32) (off : Fin 2 → ℕ) (h : ∀ a, off a + S128x1024.size a ≤ S1024x1024.size a)
    (w : S128x1024.Idx → Elt F .f32) : S1024x1024.Idx → Elt F .f32 :=
  (oB.access (Rect.unit (s := S1024x1024) off S128x1024.size h)).write (Elt F) f w Finset.univ

section Moves

variable {α : Type} {Q : α → sProp (MT nD τ sig Unit (Elt F) ℕ UU ℕ)}

theorem move_load_y (c : Dev nD) (k : ℕ) (h : k < 4) (v : S1x128x1024.Idx → Elt F .bf16)
    {hl : yB.view.LoadsAt (slotR k h).toLoadRect} {K : Vec F S1x128x1024 .bf16 → Prog (TpuEff nD τ sig (Elt F) Λ₀ .tc) α} :
    (yPt c k h v : sProp 𝕄)
      ⊢ iprop((yPt c k h v -∗ wp frame (wpE (defs₀ (F := F)) 𝒱₀ (c : Thread nD τ) none) Set.univ (K v) Q)
          -∗ wp frame (wpE (defs₀ (F := F)) 𝒱₀ (c : Thread nD τ) none) Set.univ (.op (.load yB (slotR k h).toLoadRect hl) K) Q) := by
  iintro H Hc
  iapply (wp_load_rect 𝒱₀ (c : Thread nD τ) none Set.univ (m := yB) (r := slotR k h) (access_set yB k h).subset) $$ H
  iintro H
  rw [y_load]
  iapply Hc; iexact H

theorem move_load_z (c : Dev nD) (k : ℕ) (h : k < 4) (q : PosShare TreeShare) (v : S1x128x1024.Idx → Elt F .bf16)
    {hl : zB.view.LoadsAt (slotR k h).toLoadRect} {K : Vec F S1x128x1024 .bf16 → Prog (TpuEff nD τ sig (Elt F) Λ₀ .tc) α} :
    (zPt c k h q v : sProp 𝕄)
      ⊢ iprop((zPt c k h q v -∗ wp frame (wpE (defs₀ (F := F)) 𝒱₀ (c : Thread nD τ) none) Set.univ (K v) Q)
          -∗ wp frame (wpE (defs₀ (F := F)) 𝒱₀ (c : Thread nD τ) none) Set.univ (.op (.load zB (slotR k h).toLoadRect hl) K) Q) := by
  iintro H Hc
  iapply (wp_load_rect 𝒱₀ (c : Thread nD τ) none Set.univ (m := zB) (r := slotR k h) (access_set zB k h).subset) $$ H
  iintro H
  rw [z_load]
  iapply Hc; iexact H

theorem move_load_x (c : Dev nD) (k : ℕ) (h : k < 4) (v : S1x128x1024.Idx → Elt F .bf16)
    {hl : xB.view.LoadsAt (slotR k h).toLoadRect} {K : Vec F S1x128x1024 .bf16 → Prog (TpuEff nD τ sig (Elt F) Λ₀ .tc) α} :
    (xPt c k h v : sProp 𝕄)
      ⊢ iprop((xPt c k h v -∗ wp frame (wpE (defs₀ (F := F)) 𝒱₀ (c : Thread nD τ) none) Set.univ (K v) Q)
          -∗ wp frame (wpE (defs₀ (F := F)) 𝒱₀ (c : Thread nD τ) none) Set.univ (.op (.load xB (slotR k h).toLoadRect hl) K) Q) := by
  iintro H Hc
  iapply (wp_load_rect 𝒱₀ (c : Thread nD τ) none Set.univ (m := xB) (r := slotR k h) (access_set xB k h).subset) $$ H
  iintro H
  rw [x_load]
  iapply Hc; iexact H

/-- A store to a slot, the unused load before it with it. -/
theorem move_put_y (c : Dev nD) (k : ℕ) (h : k < 4) (v : S1x128x1024.Idx → Elt F .bf16)
    {hl : yB.view.LoadsAt (slotR k h).toLoadRect} {hx : (yB.access (slotR k h)).Stores Finset.univ}
    {hm : (Finset.univ : Finset (slotR k h).shape.Idx) = Finset.univ ∨ ∀ a, (slotR k h).stride a = 1}
    {K : PUnit → Prog (TpuEff nD τ sig (Elt F) Λ₀ .tc) α} :
    (yAny c k h : sProp 𝕄)
      ⊢ iprop((yPt c k h v -∗ wp frame (wpE (defs₀ (F := F)) 𝒱₀ (c : Thread nD τ) none) Set.univ (K ⟨⟩) Q)
          -∗ wp frame (wpE (defs₀ (F := F)) 𝒱₀ (c : Thread nD τ) none) Set.univ
              (.op (.load yB (slotR k h).toLoadRect hl) fun _ => .op (.store yB (slotR k h) v Finset.univ hx hm) K) Q) := by
  iintro ⟨%f, H⟩ Hc
  iapply (wp_load_rect 𝒱₀ (c : Thread nD τ) none Set.univ (m := yB) (r := slotR k h) (access_set yB k h).subset) $$ H
  iintro H
  iapply (wp_store 𝒱₀ (c : Thread nD τ) none Set.univ (m := yB) (r := slotR k h) (w := v) (access_set yB k h).subset) $$ H
  iintro H
  ihave H := (Entails.of_eq (pointsTo_congr (y_store k h f v))) $$ H
  iapply Hc; iexact H

theorem move_put_z (c : Dev nD) (k : ℕ) (h : k < 4) (v : S1x128x1024.Idx → Elt F .bf16)
    {hl : zB.view.LoadsAt (slotR k h).toLoadRect} {hx : (zB.access (slotR k h)).Stores Finset.univ}
    {hm : (Finset.univ : Finset (slotR k h).shape.Idx) = Finset.univ ∨ ∀ a, (slotR k h).stride a = 1}
    {K : PUnit → Prog (TpuEff nD τ sig (Elt F) Λ₀ .tc) α} :
    (zAny c k h : sProp 𝕄)
      ⊢ iprop((zPt c k h fullShare v -∗ wp frame (wpE (defs₀ (F := F)) 𝒱₀ (c : Thread nD τ) none) Set.univ (K ⟨⟩) Q)
          -∗ wp frame (wpE (defs₀ (F := F)) 𝒱₀ (c : Thread nD τ) none) Set.univ
              (.op (.load zB (slotR k h).toLoadRect hl) fun _ => .op (.store zB (slotR k h) v Finset.univ hx hm) K) Q) := by
  iintro ⟨%f, H⟩ Hc
  iapply (wp_load_rect 𝒱₀ (c : Thread nD τ) none Set.univ (m := zB) (r := slotR k h) (access_set zB k h).subset) $$ H
  iintro H
  iapply (wp_store 𝒱₀ (c : Thread nD τ) none Set.univ (m := zB) (r := slotR k h) (w := v) (access_set zB k h).subset) $$ H
  iintro H
  ihave H := (Entails.of_eq (pointsTo_congr (z_store k h f v))) $$ H
  iapply Hc; iexact H

theorem chunk_read (f : S512x1024.Idx → Elt F .bf16) (off : Fin 2 → ℕ) (h : ∀ a, off a + S128x1024.size a ≤ S512x1024.size a) :
    (pB.access (Rect.unit (s := S512x1024) off S128x1024.size h)).read (Elt F) f = chunk f off h := rfl

theorem move_load_p (c : Dev nD) (f : S512x1024.Idx → Elt F .bf16) (off : Fin 2 → ℕ) (h : ∀ a, off a + S128x1024.size a ≤ S512x1024.size a)
    {hl : pB.view.LoadsAt (Rect.unit (s := S512x1024) off S128x1024.size h).toLoadRect}
    {K : Vec F S128x1024 .bf16 → Prog (TpuEff nD τ sig (Elt F) Λ₀ .tc) α} :
    (pPt c f : sProp 𝕄)
      ⊢ iprop((pPt c f -∗ wp frame (wpE (defs₀ (F := F)) 𝒱₀ (c : Thread nD τ) none) Set.univ (K (chunk f off h)) Q)
          -∗ wp frame (wpE (defs₀ (F := F)) 𝒱₀ (c : Thread nD τ) none) Set.univ
              (.op (.load pB (Rect.unit (s := S512x1024) off S128x1024.size h).toLoadRect hl) K) Q) := by
  iintro H Hc
  iapply (wp_load_rect 𝒱₀ (c : Thread nD τ) none Set.univ (m := pB) (r := Rect.unit (s := S512x1024) off S128x1024.size h) (Finset.subset_univ _)) $$ H
  iintro H
  rw [chunk_read]
  iapply Hc; iexact H

theorem scale_read (f : S1x1024.Idx → Elt F .bf16) (h : ∀ a, ![0, 0] a + S1x1024.size a ≤ S1x1024.size a) :
    (gB.access (Rect.unit (s := S1x1024) ![0, 0] S1x1024.size h)).read (Elt F) f = f := by
  funext x
  refine congrArg f (funext fun a => Fin.ext ?_)
  obtain ⟨a, ha⟩ := a
  match a, ha with
  | 0, _ => show 0 + 1 * (x 0).val = (x 0).val; omega
  | 1, _ => show 0 + 1 * (x 1).val = (x 1).val; omega

theorem move_load_g (c : Dev nD) (f : S1x1024.Idx → Elt F .bf16) (h : ∀ a, ![0, 0] a + S1x1024.size a ≤ S1x1024.size a)
    {hl : gB.view.LoadsAt (Rect.unit (s := S1x1024) ![0, 0] S1x1024.size h).toLoadRect}
    {K : Vec F S1x1024 .bf16 → Prog (TpuEff nD τ sig (Elt F) Λ₀ .tc) α} :
    (gPt c f : sProp 𝕄)
      ⊢ iprop((gPt c f -∗ wp frame (wpE (defs₀ (F := F)) 𝒱₀ (c : Thread nD τ) none) Set.univ (K f) Q)
          -∗ wp frame (wpE (defs₀ (F := F)) 𝒱₀ (c : Thread nD τ) none) Set.univ
              (.op (.load gB (Rect.unit (s := S1x1024) ![0, 0] S1x1024.size h).toLoadRect hl) K) Q) := by
  iintro H Hc
  iapply (wp_load_rect 𝒱₀ (c : Thread nD τ) none Set.univ (m := gB) (r := Rect.unit (s := S1x1024) ![0, 0] S1x1024.size h) (Finset.subset_univ _)) $$ H
  iintro H
  rw [scale_read]
  iapply Hc; iexact H

theorem move_put_o (c : Dev nD) (f : S1024x1024.Idx → Elt F .f32) (off : Fin 2 → ℕ) (h : ∀ a, off a + S128x1024.size a ≤ S1024x1024.size a)
    (w : S128x1024.Idx → Elt F .f32)
    {hl : oB.view.LoadsAt (Rect.unit (s := S1024x1024) off S128x1024.size h).toLoadRect}
    {hx : (oB.access (Rect.unit (s := S1024x1024) off S128x1024.size h)).Stores Finset.univ}
    {hm : (Finset.univ : Finset (Rect.unit (s := S1024x1024) off S128x1024.size h).shape.Idx) = Finset.univ
      ∨ ∀ a, (Rect.unit (s := S1024x1024) off S128x1024.size h).stride a = 1}
    {K : PUnit → Prog (TpuEff nD τ sig (Elt F) Λ₀ .tc) α} :
    (oPt c f : sProp 𝕄)
      ⊢ iprop((oPt c (put f off h w) -∗ wp frame (wpE (defs₀ (F := F)) 𝒱₀ (c : Thread nD τ) none) Set.univ (K ⟨⟩) Q)
          -∗ wp frame (wpE (defs₀ (F := F)) 𝒱₀ (c : Thread nD τ) none) Set.univ
              (.op (.load oB (Rect.unit (s := S1024x1024) off S128x1024.size h).toLoadRect hl) fun _ =>
                .op (.store oB (Rect.unit (s := S1024x1024) off S128x1024.size h) w Finset.univ hx hm) K) Q) := by
  iintro H Hc
  iapply (wp_load_rect 𝒱₀ (c : Thread nD τ) none Set.univ (m := oB) (r := Rect.unit (s := S1024x1024) off S128x1024.size h) (Finset.subset_univ _)) $$ H
  iintro H
  iapply (wp_store 𝒱₀ (c : Thread nD τ) none Set.univ (m := oB) (r := Rect.unit (s := S1024x1024) off S128x1024.size h) (w := w) (Finset.subset_univ _)) $$ H
  iintro H
  iapply Hc; iexact H

end Moves

end Cert.KernelIdeal.Proof

end
-- ==== Proof.Dues.lean ====
module

public import proofs.«01_k».proof.Proof.Moves

@[expose] public section

noncomputable section

namespace Cert.KernelIdeal.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal

variable {F : FTy → Type} [FloatOps F]

local notation "𝕄" => MT nD τ sig Unit (Elt F) ℕ UU ℕ

/-! ## The payments of a device, in the order it makes them: what is left after each -/

abbrev q20 (_ : Dev nD) : List (Dev nD × SemLoc sig × ℕ) := []
abbrev q19 (c : Dev nD) : List (Dev nD × SemLoc sig × ℕ) := (xp c, .reg 1, 1) :: q20 c
abbrev q18 (c : Dev nD) : List (Dev nD × SemLoc sig × ℕ) := (zr c, .reg 1, 1) :: q19 c
abbrev q17 (c : Dev nD) : List (Dev nD × SemLoc sig × ℕ) := (zl c, .reg 1, 1) :: q18 c
abbrev q16 (c : Dev nD) : List (Dev nD × SemLoc sig × ℕ) := (rt c, .reg 1, 1) :: q17 c
abbrev q15 (c : Dev nD) : List (Dev nD × SemLoc sig × ℕ) := (lf c, .reg 1, 1) :: q16 c
abbrev q14 (c : Dev nD) : List (Dev nD × SemLoc sig × ℕ) := (xp c, .dma 22, N) :: q15 c
abbrev q13 (c : Dev nD) : List (Dev nD × SemLoc sig × ℕ) := (zr c, .dma 14, N) :: q14 c
abbrev q12 (c : Dev nD) : List (Dev nD × SemLoc sig × ℕ) := (xp c, .dma 21, N) :: q13 c
abbrev q11 (c : Dev nD) : List (Dev nD × SemLoc sig × ℕ) := (zr c, .dma 13, N) :: q12 c
abbrev q10 (c : Dev nD) : List (Dev nD × SemLoc sig × ℕ) := (xp c, .dma 20, N) :: q11 c
abbrev q9 (c : Dev nD) : List (Dev nD × SemLoc sig × ℕ) := (zr c, .dma 12, N) :: q10 c
abbrev q8 (c : Dev nD) : List (Dev nD × SemLoc sig × ℕ) := (xp c, .dma 19, N) :: q9 c
abbrev q7 (c : Dev nD) : List (Dev nD × SemLoc sig × ℕ) := (rt c, .dma 8, N) :: q8 c
abbrev q6 (c : Dev nD) : List (Dev nD × SemLoc sig × ℕ) := (rt c, .dma 7, N) :: q7 c
abbrev q5 (c : Dev nD) : List (Dev nD × SemLoc sig × ℕ) := (rt c, .dma 6, N) :: q6 c
abbrev q4 (c : Dev nD) : List (Dev nD × SemLoc sig × ℕ) := (xp c, .reg 0, 1) :: q5 c
abbrev q3 (c : Dev nD) : List (Dev nD × SemLoc sig × ℕ) := (zr c, .reg 0, 1) :: q4 c
abbrev q2 (c : Dev nD) : List (Dev nD × SemLoc sig × ℕ) := (zl c, .reg 0, 1) :: q3 c
abbrev q1 (c : Dev nD) : List (Dev nD × SemLoc sig × ℕ) := (rt c, .reg 0, 1) :: q2 c
abbrev q0 (c : Dev nD) : List (Dev nD × SemLoc sig × ℕ) := (lf c, .reg 0, 1) :: q1 c

/-! ## The result buffer, store by store -/

section
variable (P : Dev nD → S512x1024.Idx → Elt F .bf16) (G : Dev nD → S1x1024.Idx → Elt F .bf16)

abbrev o0 (_P : Dev nD → S512x1024.Idx → Elt F .bf16) (_G : Dev nD → S1x1024.Idx → Elt F .bf16) (_ : Dev nD) (f : S1024x1024.Idx → Elt F .f32) : S1024x1024.Idx → Elt F .f32 := f
abbrev o1 (c : Dev nD) (f : S1024x1024.Idx → Elt F .f32) : S1024x1024.Idx → Elt F .f32 :=
  put (o0 P G c f) (k0_off3 c) (k0_off3_inb c) (rs P G c)
abbrev o2 (c : Dev nD) (f : S1024x1024.Idx → Elt F .f32) : S1024x1024.Idx → Elt F .f32 :=
  put (o1 P G c f) (k0_off4 c 0#32) (k0_off4_inb c 0) (k0_pay7 (zv P G (xp c)))
abbrev o3 (c : Dev nD) (f : S1024x1024.Idx → Elt F .f32) : S1024x1024.Idx → Elt F .f32 :=
  put (o2 P G c f) (k0_off5 c 1#32) (k0_off5_inb c 0) (k0_pay8 (zv P G (zl c)))
abbrev o4 (c : Dev nD) (f : S1024x1024.Idx → Elt F .f32) : S1024x1024.Idx → Elt F .f32 :=
  put (o3 P G c f) (k0_off4 c 1#32) (k0_off4_inb c 1) (k0_pay9 (zv P G (zl (xp c))))
abbrev o5 (c : Dev nD) (f : S1024x1024.Idx → Elt F .f32) : S1024x1024.Idx → Elt F .f32 :=
  put (o4 P G c f) (k0_off5 c 2#32) (k0_off5_inb c 1) (k0_pay10 (zv P G (zl (zl c))))
abbrev o6 (c : Dev nD) (f : S1024x1024.Idx → Elt F .f32) : S1024x1024.Idx → Elt F .f32 :=
  put (o5 P G c f) (k0_off4 c 2#32) (k0_off4_inb c 2) (k0_pay11 (zv P G (zl (zl (xp c)))))
abbrev o7 (c : Dev nD) (f : S1024x1024.Idx → Elt F .f32) : S1024x1024.Idx → Elt F .f32 :=
  put (o6 P G c f) (k0_off5 c 3#32) (k0_off5_inb c 2) (k0_pay12 (zv P G (zl (zl (zl c)))))
abbrev o8 (c : Dev nD) (f : S1024x1024.Idx → Elt F .f32) : S1024x1024.Idx → Elt F .f32 :=
  put (o7 P G c f) (k0_off4 c 3#32) (k0_off4_inb c 3) (k0_pay13 (zv P G (zl (zl (zl (xp c))))))
end

/-! ## Slot numbers, and what a copy into a slot credits -/

theorem k0_lt : 0 < 4 := by decide
theorem k1_lt : 1 < 4 := by decide
theorem k2_lt : 2 < 4 := by decide
theorem k3_lt : 3 < 4 := by decide
theorem credit_y (k : ℕ) (h : k < 4) : (slotM yB k h).view.dmaCredit = N := rfl
theorem credit_z (k : ℕ) (h : k < 4) : (slotM zB k h).view.dmaCredit = N := rfl
theorem credit_x (k : ℕ) (h : k < 4) : (slotM xB k h).view.dmaCredit = N := rfl

/-! ## What each device knows to be open of its own -/

/-- All cells the device opened stand at their only round. -/
def ownR (c : Dev nD) : sProp 𝕄 := bigSep Finset.univ fun k : Fin 21 => reached ER ((c : Thread nD τ), osem k) 0

instance ownR_persistent (c : Dev nD) : BI.Persistent (ownR (F := F) c) := by unfold ownR; infer_instance

theorem ownR_at (c : Dev nD) (k : Fin 21) : (ownR c : sProp 𝕄) ⊢ reached ER ((c : Thread nD τ), osem k) 0 := by
  unfold ownR
  exact bigSep_elim (Finset.mem_univ k)
theorem ownR_1 (c : Dev nD) : (ownR c : sProp 𝕄) ⊢ reached ER (gR c 1) 0 := ownR_at c 0
theorem ownR_D (c : Dev nD) (n : Fin 23) (h : 3 ≤ n.val) : (ownR c : sProp 𝕄) ⊢ reached ER (gD c n) 0 := by
  have e : osem ⟨n.val - 2, by omega⟩ = .dma n := by
    unfold osem
    rw [dif_neg (by show ¬ n.val - 2 = 0; omega)]
    exact congrArg SemLoc.dma (Fin.ext (by show n.val - 2 + 2 = n.val; omega))
  have h0 := ownR_at (F := F) c ⟨n.val - 2, by omega⟩
  rw [e] at h0
  exact h0

section
variable (P : Dev nD → S512x1024.Idx → Elt F .bf16) (G : Dev nD → S1x1024.Idx → Elt F .bf16)

/-! ## The barrier's payments, as their payers have them -/

theorem pay_lf (c : Dev nD) : iprop(ownR c ∗ yAny c 1 k1_lt ∗ yAny c 2 k2_lt ∗ yAny c 3 k3_lt) ⊢ payS P G (lf c) (.reg 0) 1 := by
  show _ ⊢ iprop(reached ER (gR (rt (lf c)) 1) 0 ∗ yFree (rt (lf c)))
  rw [rt_lf]
  unfold yFree
  iintro ⟨#HR, H1, H2, H3⟩
  isplitr; · iapply (ownR_1 c); iexact HR
  isplitl [H1]; · iexact H1
  isplitl [H2]; · iexact H2
  isplitl [H3]; · iexact H3
  isplitr; · iapply (ownR_D c 6 (by decide)); iexact HR
  isplitr; · iapply (ownR_D c 7 (by decide)); iexact HR
  iapply (ownR_D c 8 (by decide)); iexact HR

theorem pay_rt (c : Dev nD) : ownR c ⊢ payS P G (rt c) (.reg 0) 0 := by
  show _ ⊢ (reached ER (gR (lf (rt c)) 1) 0 : sProp 𝕄)
  rw [lf_rt]
  exact ownR_1 c

theorem pay_zl (c : Dev nD) : iprop(ownR c ∗ zAny c 1 k1_lt ∗ zAny c 2 k2_lt ∗ zAny c 3 k3_lt) ⊢ payS P G (zl c) (.reg 0) 3 := by
  show _ ⊢ iprop(reached ER (gR (zr (zl c)) 1) 0 ∗ zFree (zr (zl c)))
  rw [zr_zl]
  unfold zFree
  iintro ⟨#HR, H1, H2, H3⟩
  isplitr; · iapply (ownR_1 c); iexact HR
  isplitl [H1]; · iexact H1
  isplitl [H2]; · iexact H2
  isplitl [H3]; · iexact H3
  isplitr; · iapply (ownR_D c 12 (by decide)); iexact HR
  isplitr; · iapply (ownR_D c 13 (by decide)); iexact HR
  iapply (ownR_D c 14 (by decide)); iexact HR

theorem pay_zr (c : Dev nD) : ownR c ⊢ payS P G (zr c) (.reg 0) 2 := by
  show _ ⊢ (reached ER (gR (zl (zr c)) 1) 0 : sProp 𝕄)
  rw [zl_zr]
  exact ownR_1 c

theorem pay_xp (c : Dev nD) : iprop(ownR c ∗ xAny c 0 k0_lt ∗ xAny c 1 k1_lt ∗ xAny c 2 k2_lt ∗ xAny c 3 k3_lt) ⊢ payS P G (xp c) (.reg 0) 4 := by
  show _ ⊢ iprop(reached ER (gR (xp (xp c)) 1) 0 ∗ xFree (xp (xp c)))
  rw [xp_xp]
  unfold xFree
  iintro ⟨#HR, H0, H1, H2, H3⟩
  isplitr; · iapply (ownR_1 c); iexact HR
  isplitl [H0]; · iexact H0
  isplitl [H1]; · iexact H1
  isplitl [H2]; · iexact H2
  isplitl [H3]; · iexact H3
  isplitr; · iapply (ownR_D c 19 (by decide)); iexact HR
  isplitr; · iapply (ownR_D c 20 (by decide)); iexact HR
  isplitr; · iapply (ownR_D c 21 (by decide)); iexact HR
  iapply (ownR_D c 22 (by decide)); iexact HR

/-! ## What lands in a neighbour's slot is what its arrival semaphore is credited with -/

theorem land6 (c : Dev nD) (g : S4x128x1024.Idx → Elt F .bf16) :
    ((slotM yB 1 k1_lt).view.loc ((rt c : Dev nD) : Thread nD τ) ↦[(slotM yB 1 k1_lt).view.set]{fullShare}
      ((slotM yB 1 k1_lt).view.write (Elt F) g ((slotM yB 0 k0_lt).view.read (Elt F) (spread (u0 P c))) Finset.univ) : sProp 𝕄)
      ⊢ dmaPay P G (rt c) ((6 : Fin 23) : ℕ) := by
  show _ ⊢ (yPt (rt c) 1 k1_lt (u0 P (lf (rt c))) : sProp 𝕄)
  rw [lf_rt]
  exact Entails.of_eq (pointsTo_congr (yy_copy 0 1 k0_lt k1_lt g (u0 P c)))

theorem land7 (c : Dev nD) (g : S4x128x1024.Idx → Elt F .bf16) :
    ((slotM yB 2 k2_lt).view.loc ((rt c : Dev nD) : Thread nD τ) ↦[(slotM yB 2 k2_lt).view.set]{fullShare}
      ((slotM yB 2 k2_lt).view.write (Elt F) g ((slotM yB 1 k1_lt).view.read (Elt F) (spread (u1 P c))) Finset.univ) : sProp 𝕄)
      ⊢ dmaPay P G (rt c) ((7 : Fin 23) : ℕ) := by
  show _ ⊢ (yPt (rt c) 2 k2_lt (u1 P (lf (rt c))) : sProp 𝕄)
  rw [lf_rt]
  exact Entails.of_eq (pointsTo_congr (yy_copy 1 2 k1_lt k2_lt g (u1 P c)))

theorem land8 (c : Dev nD) (g : S4x128x1024.Idx → Elt F .bf16) :
    ((slotM yB 3 k3_lt).view.loc ((rt c : Dev nD) : Thread nD τ) ↦[(slotM yB 3 k3_lt).view.set]{fullShare}
      ((slotM yB 3 k3_lt).view.write (Elt F) g ((slotM yB 2 k2_lt).view.read (Elt F) (spread (u2 P c))) Finset.univ) : sProp 𝕄)
      ⊢ dmaPay P G (rt c) ((8 : Fin 23) : ℕ) := by
  show _ ⊢ (yPt (rt c) 3 k3_lt (u2 P (lf (rt c))) : sProp 𝕄)
  rw [lf_rt]
  exact Entails.of_eq (pointsTo_congr (yy_copy 2 3 k2_lt k3_lt g (u2 P c)))

theorem land12 (c : Dev nD) (g : S4x128x1024.Idx → Elt F .bf16) :
    ((slotM zB 1 k1_lt).view.loc ((zr c : Dev nD) : Thread nD τ) ↦[(slotM zB 1 k1_lt).view.set]{fullShare}
      ((slotM zB 1 k1_lt).view.write (Elt F) g ((slotM zB 0 k0_lt).view.read (Elt F) (spread (zv P G c))) Finset.univ) : sProp 𝕄)
      ⊢ dmaPay P G (zr c) ((12 : Fin 23) : ℕ) := by
  show _ ⊢ (zPt (zr c) 1 k1_lt fullShare (zv P G (zl (zr c))) : sProp 𝕄)
  rw [zl_zr]
  exact Entails.of_eq (pointsTo_congr (zz_copy 0 1 k0_lt k1_lt g (zv P G c)))

theorem land13 (c : Dev nD) (g : S4x128x1024.Idx → Elt F .bf16) :
    ((slotM zB 2 k2_lt).view.loc ((zr c : Dev nD) : Thread nD τ) ↦[(slotM zB 2 k2_lt).view.set]{fullShare}
      ((slotM zB 2 k2_lt).view.write (Elt F) g ((slotM zB 1 k1_lt).view.read (Elt F) (spread (zv P G (zl c)))) Finset.univ) : sProp 𝕄)
      ⊢ dmaPay P G (zr c) ((13 : Fin 23) : ℕ) := by
  show _ ⊢ (zPt (zr c) 2 k2_lt fullShare (zv P G (zl (zl (zr c)))) : sProp 𝕄)
  rw [zl_zr]
  exact Entails.of_eq (pointsTo_congr (zz_copy 1 2 k1_lt k2_lt g (zv P G (zl c))))

theorem land14 (c : Dev nD) (g : S4x128x1024.Idx → Elt F .bf16) :
    ((slotM zB 3 k3_lt).view.loc ((zr c : Dev nD) : Thread nD τ) ↦[(slotM zB 3 k3_lt).view.set]{fullShare}
      ((slotM zB 3 k3_lt).view.write (Elt F) g ((slotM zB 2 k2_lt).view.read (Elt F) (spread (zv P G (zl (zl c))))) Finset.univ) : sProp 𝕄)
      ⊢ dmaPay P G (zr c) ((14 : Fin 23) : ℕ) := by
  show _ ⊢ (zPt (zr c) 3 k3_lt fullShare (zv P G (zl (zl (zl (zr c))))) : sProp 𝕄)
  rw [zl_zr]
  exact Entails.of_eq (pointsTo_congr (zz_copy 2 3 k2_lt k3_lt g (zv P G (zl (zl c)))))

theorem land19 (c : Dev nD) (g : S4x128x1024.Idx → Elt F .bf16) :
    ((slotM xB 0 k0_lt).view.loc ((xp c : Dev nD) : Thread nD τ) ↦[(slotM xB 0 k0_lt).view.set]{fullShare}
      ((slotM xB 0 k0_lt).view.write (Elt F) g ((slotM zB 0 k0_lt).view.read (Elt F) (spread (zv P G c))) Finset.univ) : sProp 𝕄)
      ⊢ dmaPay P G (xp c) ((19 : Fin 23) : ℕ) := by
  show _ ⊢ (xPt (xp c) 0 k0_lt (zv P G (xp (xp c))) : sProp 𝕄)
  rw [xp_xp]
  exact Entails.of_eq (pointsTo_congr (zx_copy 0 0 k0_lt k0_lt g (zv P G c)))

theorem land20 (c : Dev nD) (g : S4x128x1024.Idx → Elt F .bf16) :
    ((slotM xB 1 k1_lt).view.loc ((xp c : Dev nD) : Thread nD τ) ↦[(slotM xB 1 k1_lt).view.set]{fullShare}
      ((slotM xB 1 k1_lt).view.write (Elt F) g ((slotM zB 1 k1_lt).view.read (Elt F) (spread (zv P G (zl c)))) Finset.univ) : sProp 𝕄)
      ⊢ dmaPay P G (xp c) ((20 : Fin 23) : ℕ) := by
  show _ ⊢ (xPt (xp c) 1 k1_lt (zv P G (zl (xp (xp c)))) : sProp 𝕄)
  rw [xp_xp]
  exact Entails.of_eq (pointsTo_congr (zx_copy 1 1 k1_lt k1_lt g (zv P G (zl c))))

theorem land21 (c : Dev nD) (g : S4x128x1024.Idx → Elt F .bf16) :
    ((slotM xB 2 k2_lt).view.loc ((xp c : Dev nD) : Thread nD τ) ↦[(slotM xB 2 k2_lt).view.set]{fullShare}
      ((slotM xB 2 k2_lt).view.write (Elt F) g ((slotM zB 2 k2_lt).view.read (Elt F) (spread (zv P G (zl (zl c))))) Finset.univ) : sProp 𝕄)
      ⊢ dmaPay P G (xp c) ((21 : Fin 23) : ℕ) := by
  show _ ⊢ (xPt (xp c) 2 k2_lt (zv P G (zl (zl (xp (xp c))))) : sProp 𝕄)
  rw [xp_xp]
  exact Entails.of_eq (pointsTo_congr (zx_copy 2 2 k2_lt k2_lt g (zv P G (zl (zl c)))))

theorem land22 (c : Dev nD) (g : S4x128x1024.Idx → Elt F .bf16) :
    ((slotM xB 3 k3_lt).view.loc ((xp c : Dev nD) : Thread nD τ) ↦[(slotM xB 3 k3_lt).view.set]{fullShare}
      ((slotM xB 3 k3_lt).view.write (Elt F) g ((slotM zB 3 k3_lt).view.read (Elt F) (spread (zv P G (zl (zl (zl c)))))) Finset.univ) : sProp 𝕄)
      ⊢ dmaPay P G (xp c) ((22 : Fin 23) : ℕ) := by
  show _ ⊢ (xPt (xp c) 3 k3_lt (zv P G (zl (zl (zl (xp (xp c)))))) : sProp 𝕄)
  rw [xp_xp]
  exact Entails.of_eq (pointsTo_congr (zx_copy 3 3 k3_lt k3_lt g (zv P G (zl (zl (zl c))))))

end

theorem any_y (c : Dev nD) (k : ℕ) (h : k < 4) (v : S1x128x1024.Idx → Elt F .bf16) : (yPt c k h v : sProp 𝕄) ⊢ yAny c k h := by
  iintro H; iexists _; iexact H

/-- A slot two copies read at once, in two halves. -/
theorem z_split (c : Dev nD) (k : ℕ) (h : k < 4) (v : S1x128x1024.Idx → Elt F .bf16) :
    (zPt c k h fullShare v : sProp 𝕄) ⊢ iprop(zPt c k h qL v ∗ zPt c k h qR v) :=
  (pointsTo_share (PosShare.mem_left_op_right fullShare)).1
theorem z_join (c : Dev nD) (k : ℕ) (h : k < 4) (v : S1x128x1024.Idx → Elt F .bf16) :
    iprop(zPt c k h qL v ∗ zPt c k h qR v) ⊢ (zPt c k h fullShare v : sProp 𝕄) :=
  (pointsTo_share (PosShare.mem_left_op_right fullShare)).2

end Cert.KernelIdeal.Proof

end
-- ==== Proof.BodyY.lean ====
module

public import proofs.«01_k».proof.Proof.Dues

@[expose] public section

noncomputable section

namespace Cert.KernelIdeal.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal

variable {F : FTy → Type} [FloatOps F]

local notation "𝕄" => MT nD τ sig Unit (Elt F) ℕ UU ℕ

section Parts

variable {P : Dev nD → S512x1024.Idx → Elt F .bf16} {G : Dev nD → S1x1024.Idx → Elt F .bf16} {K : GSem nD τ sig → ℕ}

theorem part2 (c : Dev nD) (v2 : BitVec 32) (v5 : BitVec 32) (v8 : BitVec 32) (v19 : BitVec 32)
    {Q : (Σ' (v46 : BitVec 32), BitVec 32) → sProp (MT nD τ sig Unit (Elt F) ℕ UU ℕ)} :
    iprop(known P G K
        ∗ ownR c
        ∗ yAny c 1 k1_lt
        ∗ yAny c 2 k2_lt
        ∗ yAny c 3 k3_lt
        ∗ owing c (q0 c)
        ∗ dutyTok ER (gR (lf c) 0) 0 1
        ∗ dutyTok ER (gR (rt c) 0) 0 0)
      ⊢ iprop((∀ v46 : BitVec 32, ∀ v57 : BitVec 32, iprop(owing c (q2 c))
          -∗ Q ⟨v46, v57⟩)
        -∗ wp frame (wpE (defs₀ (F := F)) 𝒱₀ (c : Thread nD τ) none) Set.univ
          (k0_part2_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v5 v8 v19 (SemArray.scalar (sig.barrier 0 rfl))) Q) := by
  iintro ⟨#Hk, #HR, Y1, Y2, Y3, HO, T0, T1⟩ Hc
  unfold k0_part2_skel
  simp only [semSignalWord, semWaitWord, Prog.lift, Prog.bind_op, Prog.bind_ret, Prog.pure_eq_ret]
  ihave Hq := (pay_lf (P := P) (G := G) c) $$ [Y1 Y2 Y3]
  · isplitr; · iexact HR
    isplitl [Y1]; · iexact Y1
    isplitl [Y2]; · iexact Y2
    iexact Y3
  iapply (step_signal c (lf c) 0 1 (q1 c) (dev1 c _) rfl) $$ [HO T0 Hq]
  · isplitr; · iexact Hk
    isplitl [HO]; · iexact HO
    isplitl [T0]; · iexact T0
    isplitl [Hq]; · iexact Hq
    iapply (known_bar (lf c)); iexact Hk
  iintro HO
  iapply (step_signal c (rt c) 0 0 (q2 c) (dev2 c _) rfl) $$ [HO T1]
  · isplitr; · iexact Hk
    isplitl [HO]; · iexact HO
    isplitl [T1]; · iexact T1
    isplitr; · iapply (pay_rt P G c); iexact HR
    iapply (known_bar (rt c)); iexact Hk
  iintro HO
  rw [wp_ret]; imodintro
  iapply Hc
  iexact HO

theorem part3 (c : Dev nD) (v2 : BitVec 32) (v5 : BitVec 32) (v8 : BitVec 32) (v30 : BitVec 32) (v31 : BitVec 32) (v57 : BitVec 32)
    {Q : (PUnit) → sProp (MT nD τ sig Unit (Elt F) ℕ UU ℕ)} :
    iprop(known P G K
        ∗ ownR c
        ∗ owing c (q2 c)
        ∗ dutyTok ER (gR (zl c) 0) 0 3
        ∗ zAny c 1 k1_lt
        ∗ zAny c 2 k2_lt
        ∗ zAny c 3 k3_lt
        ∗ dutyTok ER (gR (zr c) 0) 0 2
        ∗ dutyTok ER (gR (xp c) 0) 0 4
        ∗ xAny c 0 k0_lt
        ∗ xAny c 1 k1_lt
        ∗ xAny c 2 k2_lt
        ∗ xAny c 3 k3_lt
        ∗ cred (tallyAt (gR c 0) () 5)
        ∗ atPos ER (gR c 0) 0 ∅ 0)
      ⊢ iprop((iprop(owing c (q5 c)
          ∗ atPos ER (gR c 0) 1 ∅ 0
          ∗ iprop(barPay c 0 ∗ barPay c 1 ∗ barPay c 2 ∗ barPay c 3 ∗ barPay c 4))
          -∗ Q ⟨⟩)
        -∗ wp frame (wpE (defs₀ (F := F)) 𝒱₀ (c : Thread nD τ) none) Set.univ
          (k0_part3_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v5 v8 v30 v31 (SemArray.scalar (sig.barrier 0 rfl)) v57) Q) := by
  iintro ⟨#Hk, #HR, HO, T2, Z1, Z2, Z3, T3, T4, X0, X1, X2, X3, C0, A0⟩ Hc
  unfold k0_part3_skel
  simp only [semSignalWord, semWaitWord, Prog.lift, Prog.bind_op, Prog.bind_ret, Prog.pure_eq_ret]
  ihave Hq := (pay_zl (P := P) (G := G) c) $$ [Z1 Z2 Z3]
  · isplitr; · iexact HR
    isplitl [Z1]; · iexact Z1
    isplitl [Z2]; · iexact Z2
    iexact Z3
  iapply (step_signal c (zl c) 0 3 (q3 c) (dev3 c _) rfl) $$ [HO T2 Hq]
  · isplitr; · iexact Hk
    isplitl [HO]; · iexact HO
    isplitl [T2]; · iexact T2
    isplitl [Hq]; · iexact Hq
    iapply (known_bar (zl c)); iexact Hk
  iintro HO
  iapply (step_signal c (zr c) 0 2 (q4 c) (dev4 c _) rfl) $$ [HO T3]
  · isplitr; · iexact Hk
    isplitl [HO]; · iexact HO
    isplitl [T3]; · iexact T3
    isplitr; · iapply (pay_zr P G c); iexact HR
    iapply (known_bar (zr c)); iexact Hk
  iintro HO
  ihave Hq := (pay_xp (P := P) (G := G) c) $$ [X0 X1 X2 X3]
  · isplitr; · iexact HR
    isplitl [X0]; · iexact X0
    isplitl [X1]; · iexact X1
    isplitl [X2]; · iexact X2
    iexact X3
  iapply (step_signal c (xp c) 0 4 (q5 c) (dev5 c _) rfl) $$ [HO T4 Hq]
  · isplitr; · iexact Hk
    isplitl [HO]; · iexact HO
    isplitl [T4]; · iexact T4
    isplitl [Hq]; · iexact Hq
    iapply (known_bar (xp c)); iexact Hk
  iintro HO
  iapply (step_wait_reg c 0 (q5 c) rfl (by rfl)) $$ [C0 HO A0]
  · isplitr; · iexact Hk
    isplitl [C0]; · iexact C0
    isplitl [HO]; · iexact HO
    iexact A0
  iintro ⟨HO, A0, Hpay⟩
  ihave Hpay := (Entails.of_eq (rest_bar P G c)) $$ Hpay
  rw [wp_ret]; imodintro
  iapply Hc
  isplitl [HO]; · iexact HO
  isplitl [A0]; · iexact A0
  iexact Hpay

theorem part4 (c : Dev nD) (v2 : BitVec 32) (v8 : BitVec 32) (v19 : BitVec 32)
    {Q : (Σ' (v126 : BitVec 32), BitVec 32) → sProp (MT nD τ sig Unit (Elt F) ℕ UU ℕ)} :
    iprop(known P G K
        ∗ ownR c
        ∗ reached ER (gD (rt c) 6) 0
        ∗ pPt c (P c)
        ∗ yAny c 0 k0_lt
        ∗ owing c (q5 c)
        ∗ yAny (rt c) 1 k1_lt
        ∗ dutyTok ER (gD c 3) 0 0
        ∗ dutyTok ER (gD (rt c) 6) 0 0
        ∗ atPos ER (gD c 3) 0 ∅ 0)
      ⊢ iprop((∀ v126 : BitVec 32, iprop(pPt c (P c)
          ∗ yPt c 0 k0_lt (u0 P c)
          ∗ owing c (q6 c)
          ∗ atPos ER (gD c 3) 1 ∅ 0)
          -∗ Q ⟨v126, 0#32⟩)
        -∗ wp frame (wpE (defs₀ (F := F)) 𝒱₀ (c : Thread nD τ) none) Set.univ
          (k0_part4_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v8 v19) Q) := by
  iintro ⟨#Hk, #HR, #B6, Hp, Y0, HO, NY1, S3, R6, A3⟩ Hc
  unfold k0_part4_skel
  simp only [semSignalWord, semWaitWord, Prog.lift, Prog.bind_op, Prog.bind_ret, Prog.pure_eq_ret]
  iapply (move_load_p c (P c) (k0_off1 c) (k0_off1_inb c)) $$ Hp
  iintro Hp
  iapply (move_put_y c 0 k0_lt (u0 P c)) $$ Y0
  iintro Y0
  icases NY1 with ⟨%g6, NY1⟩
  iapply (step_send c (rt c) 3 6 (by decide) (by decide) (q6 c) (dev6 c _) sem_ys0 sem_yr0 (src := slotM yB 0 k0_lt) (dst := slotM yB 1 k1_lt)
      (q := fullShare) (fs := spread (u0 P c)) (fd := g6) (credit_y _ _) .rfl (land6 P G c g6)) $$ [Y0 NY1 HO S3 R6]
  · isplitr; · iexact Hk
    isplitl [Y0]; · iexact Y0
    isplitl [NY1]; · iexact NY1
    isplitl [HO]; · iexact HO
    isplitl [S3]; · iexact S3
    isplitr; · iapply (ownR_D c 3 (by decide)); iexact HR
    isplitl [R6]; · iexact R6
    iexact B6
  iintro ⟨C3, HO⟩
  iapply (step_wait_dma c 3 (by decide) (q6 c) sem_ys0 (by rfl) (credit_y 0 k0_lt)) $$ [C3 HO A3]
  · isplitr; · iexact Hk
    isplitl [C3]; · iexact C3
    isplitl [HO]; · iexact HO
    iexact A3
  iintro ⟨HO, A3, Y0⟩
  ihave Y0 := (Entails.of_eq (show dmaPay P G c ((3 : Fin 23) : ℕ) = yPt c 0 k0_lt (u0 P c) from rfl)) $$ Y0
  rw [wp_ret]; imodintro
  iapply Hc
  isplitl [Hp]; · iexact Hp
  isplitl [Y0]; · iexact Y0
  isplitl [HO]; · iexact HO
  iexact A3

theorem part5 (c : Dev nD) (v5 : BitVec 32) (v8 : BitVec 32) (v19 : BitVec 32) (v126 : BitVec 32) (c0_i32_93 : BitVec 32)
    {Q : (PUnit) → sProp (MT nD τ sig Unit (Elt F) ℕ UU ℕ)} :
    iprop(known P G K
        ∗ ownR c
        ∗ owing c (q6 c)
        ∗ cred (tallyAt (gD c 6) () N)
        ∗ atPos ER (gD c 6) 0 ∅ 0
        ∗ pPt c (P c))
      ⊢ iprop((iprop(owing c (q6 c)
          ∗ atPos ER (gD c 6) 1 ∅ 0
          ∗ yPt c 1 k1_lt (u1 P c)
          ∗ pPt c (P c))
          -∗ Q ⟨⟩)
        -∗ wp frame (wpE (defs₀ (F := F)) 𝒱₀ (c : Thread nD τ) none) Set.univ
          (k0_part5_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v5 v8 v19 v126 c0_i32_93) Q) := by
  iintro ⟨#Hk, #HR, HO, C6, A6, Hp⟩ Hc
  unfold k0_part5_skel
  simp only [semSignalWord, semWaitWord, Prog.lift, Prog.bind_op, Prog.bind_ret, Prog.pure_eq_ret]
  iapply (step_wait_dma c 6 (by decide) (q6 c) sem_yr0 (by rfl) (credit_y 1 k1_lt)) $$ [C6 HO A6]
  · isplitr; · iexact Hk
    isplitl [C6]; · iexact C6
    isplitl [HO]; · iexact HO
    iexact A6
  iintro ⟨HO, A6, Y1⟩
  ihave Y1 := (Entails.of_eq (show dmaPay P G c ((6 : Fin 23) : ℕ) = yPt c 1 k1_lt (u0 P (lf c)) from rfl)) $$ Y1
  iapply (move_load_y c 1 k1_lt (u0 P (lf c))) $$ Y1
  iintro Y1
  iapply (move_load_p c (P c) (k0_off2 c 0#32) (k0_off2_inb c 0)) $$ Hp
  iintro Hp
  ihave Y1 := (any_y c 1 k1_lt _) $$ Y1
  iapply (move_put_y c 1 k1_lt (u1 P c)) $$ Y1
  iintro Y1
  rw [wp_ret]; imodintro
  iapply Hc
  isplitl [HO]; · iexact HO
  isplitl [A6]; · iexact A6
  isplitl [Y1]; · iexact Y1
  iexact Hp

theorem part6 (c : Dev nD) (v2 : BitVec 32) (v8 : BitVec 32) (v19 : BitVec 32)
    {Q : (PUnit) → sProp (MT nD τ sig Unit (Elt F) ℕ UU ℕ)} :
    iprop(known P G K
        ∗ ownR c
        ∗ reached ER (gD (rt c) 7) 0
        ∗ owing c (q6 c)
        ∗ yPt c 1 k1_lt (u1 P c)
        ∗ yAny (rt c) 2 k2_lt
        ∗ dutyTok ER (gD c 4) 0 0
        ∗ dutyTok ER (gD (rt c) 7) 0 0
        ∗ atPos ER (gD c 4) 0 ∅ 0)
      ⊢ iprop((iprop(owing c (q7 c)
          ∗ yPt c 1 k1_lt (u1 P c)
          ∗ atPos ER (gD c 4) 1 ∅ 0)
          -∗ Q ⟨⟩)
        -∗ wp frame (wpE (defs₀ (F := F)) 𝒱₀ (c : Thread nD τ) none) Set.univ
          (k0_part6_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v8 v19) Q) := by
  iintro ⟨#Hk, #HR, #B7, HO, Y1, NY2, S4, R7, A4⟩ Hc
  unfold k0_part6_skel
  simp only [semSignalWord, semWaitWord, Prog.lift, Prog.bind_op, Prog.bind_ret, Prog.pure_eq_ret]
  icases NY2 with ⟨%g7, NY2⟩
  iapply (step_send c (rt c) 4 7 (by decide) (by decide) (q7 c) (dev7 c _) sem_ys1 sem_yr1 (src := slotM yB 1 k1_lt) (dst := slotM yB 2 k2_lt)
      (q := fullShare) (fs := spread (u1 P c)) (fd := g7) (credit_y _ _) .rfl (land7 P G c g7)) $$ [Y1 NY2 HO S4 R7]
  · isplitr; · iexact Hk
    isplitl [Y1]; · iexact Y1
    isplitl [NY2]; · iexact NY2
    isplitl [HO]; · iexact HO
    isplitl [S4]; · iexact S4
    isplitr; · iapply (ownR_D c 4 (by decide)); iexact HR
    isplitl [R7]; · iexact R7
    iexact B7
  iintro ⟨C4, HO⟩
  iapply (step_wait_dma c 4 (by decide) (q7 c) sem_ys1 (by rfl) (credit_y 1 k1_lt)) $$ [C4 HO A4]
  · isplitr; · iexact Hk
    isplitl [C4]; · iexact C4
    isplitl [HO]; · iexact HO
    iexact A4
  iintro ⟨HO, A4, Y1⟩
  ihave Y1 := (Entails.of_eq (show dmaPay P G c ((4 : Fin 23) : ℕ) = yPt c 1 k1_lt (u1 P c) from rfl)) $$ Y1
  rw [wp_ret]; imodintro
  iapply Hc
  isplitl [HO]; · iexact HO
  isplitl [Y1]; · iexact Y1
  iexact A4

theorem part7 (c : Dev nD) (v2 : BitVec 32) (v5 : BitVec 32) (v19 : BitVec 32)
    {Q : (Σ' (v221 : BitVec 32), BitVec 32) → sProp (MT nD τ sig Unit (Elt F) ℕ UU ℕ)} :
    iprop(known P G K
        ∗ ownR c
        ∗ owing c (q7 c)
        ∗ cred (tallyAt (gD c 7) () N)
        ∗ atPos ER (gD c 7) 0 ∅ 0
        ∗ pPt c (P c))
      ⊢ iprop((∀ v221 : BitVec 32, ∀ v222 : BitVec 32, iprop(owing c (q7 c)
          ∗ atPos ER (gD c 7) 1 ∅ 0
          ∗ yPt c 2 k2_lt (u2 P c)
          ∗ pPt c (P c))
          -∗ Q ⟨v221, v222⟩)
        -∗ wp frame (wpE (defs₀ (F := F)) 𝒱₀ (c : Thread nD τ) none) Set.univ
          (k0_part7_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v5 v19) Q) := by
  iintro ⟨#Hk, #HR, HO, C7, A7, Hp⟩ Hc
  unfold k0_part7_skel
  simp only [semSignalWord, semWaitWord, Prog.lift, Prog.bind_op, Prog.bind_ret, Prog.pure_eq_ret]
  iapply (step_wait_dma c 7 (by decide) (q7 c) sem_yr1 (by rfl) (credit_y 2 k2_lt)) $$ [C7 HO A7]
  · isplitr; · iexact Hk
    isplitl [C7]; · iexact C7
    isplitl [HO]; · iexact HO
    iexact A7
  iintro ⟨HO, A7, Y2⟩
  ihave Y2 := (Entails.of_eq (show dmaPay P G c ((7 : Fin 23) : ℕ) = yPt c 2 k2_lt (u1 P (lf c)) from rfl)) $$ Y2
  iapply (move_load_y c 2 k2_lt (u1 P (lf c))) $$ Y2
  iintro Y2
  iapply (move_load_p c (P c) (k0_off2 c 1#32) (k0_off2_inb c 1)) $$ Hp
  iintro Hp
  ihave Y2 := (any_y c 2 k2_lt _) $$ Y2
  iapply (move_put_y c 2 k2_lt (u2 P c)) $$ Y2
  iintro Y2
  rw [wp_ret]; imodintro
  iapply Hc
  isplitl [HO]; · iexact HO
  isplitl [A7]; · iexact A7
  isplitl [Y2]; · iexact Y2
  iexact Hp

theorem part8 (c : Dev nD) (v2 : BitVec 32) (v5 : BitVec 32) (v8 : BitVec 32) (v19 : BitVec 32) (v221 : BitVec 32) (v222 : BitVec 32)
    {Q : (BitVec 32) → sProp (MT nD τ sig Unit (Elt F) ℕ UU ℕ)} :
    iprop(known P G K
        ∗ ownR c
        ∗ reached ER (gD (rt c) 8) 0
        ∗ owing c (q7 c)
        ∗ yPt c 2 k2_lt (u2 P c)
        ∗ yAny (rt c) 3 k3_lt
        ∗ dutyTok ER (gD c 5) 0 0
        ∗ dutyTok ER (gD (rt c) 8) 0 0
        ∗ atPos ER (gD c 5) 0 ∅ 0
        ∗ cred (tallyAt (gD c 8) () N)
        ∗ atPos ER (gD c 8) 0 ∅ 0)
      ⊢ iprop((∀ v252 : BitVec 32, iprop(owing c (q8 c)
          ∗ yPt c 2 k2_lt (u2 P c)
          ∗ atPos ER (gD c 5) 1 ∅ 0
          ∗ atPos ER (gD c 8) 1 ∅ 0
          ∗ yPt c 3 k3_lt (u2 P (lf c)))
          -∗ Q v252)
        -∗ wp frame (wpE (defs₀ (F := F)) 𝒱₀ (c : Thread nD τ) none) Set.univ
          (k0_part8_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v5 v8 v19 v221 v222) Q) := by
  iintro ⟨#Hk, #HR, #B8, HO, Y2, NY3, S5, R8, A5, C8, A8⟩ Hc
  unfold k0_part8_skel
  simp only [semSignalWord, semWaitWord, Prog.lift, Prog.bind_op, Prog.bind_ret, Prog.pure_eq_ret]
  icases NY3 with ⟨%g8, NY3⟩
  iapply (step_send c (rt c) 5 8 (by decide) (by decide) (q8 c) (dev8 c _) sem_ys2 sem_yr2 (src := slotM yB 2 k2_lt) (dst := slotM yB 3 k3_lt)
      (q := fullShare) (fs := spread (u2 P c)) (fd := g8) (credit_y _ _) .rfl (land8 P G c g8)) $$ [Y2 NY3 HO S5 R8]
  · isplitr; · iexact Hk
    isplitl [Y2]; · iexact Y2
    isplitl [NY3]; · iexact NY3
    isplitl [HO]; · iexact HO
    isplitl [S5]; · iexact S5
    isplitr; · iapply (ownR_D c 5 (by decide)); iexact HR
    isplitl [R8]; · iexact R8
    iexact B8
  iintro ⟨C5, HO⟩
  iapply (step_wait_dma c 5 (by decide) (q8 c) sem_ys2 (by rfl) (credit_y 2 k2_lt)) $$ [C5 HO A5]
  · isplitr; · iexact Hk
    isplitl [C5]; · iexact C5
    isplitl [HO]; · iexact HO
    iexact A5
  iintro ⟨HO, A5, Y2⟩
  ihave Y2 := (Entails.of_eq (show dmaPay P G c ((5 : Fin 23) : ℕ) = yPt c 2 k2_lt (u2 P c) from rfl)) $$ Y2
  iapply (step_wait_dma c 8 (by decide) (q8 c) sem_yr2 (by rfl) (credit_y 3 k3_lt)) $$ [C8 HO A8]
  · isplitr; · iexact Hk
    isplitl [C8]; · iexact C8
    isplitl [HO]; · iexact HO
    iexact A8
  iintro ⟨HO, A8, Y3⟩
  ihave Y3 := (Entails.of_eq (show dmaPay P G c ((8 : Fin 23) : ℕ) = yPt c 3 k3_lt (u2 P (lf c)) from rfl)) $$ Y3
  rw [wp_ret]; imodintro
  iapply Hc
  isplitl [HO]; · iexact HO
  isplitl [Y2]; · iexact Y2
  isplitl [A5]; · iexact A5
  isplitl [A8]; · iexact A8
  iexact Y3

end Parts

end Cert.KernelIdeal.Proof

end
-- ==== Proof.BodyZ.lean ====
module

public import proofs.«01_k».proof.Proof.Dues

@[expose] public section

noncomputable section

namespace Cert.KernelIdeal.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal

variable {F : FTy → Type} [FloatOps F]

local notation "𝕄" => MT nD τ sig Unit (Elt F) ℕ UU ℕ

section Parts

variable {P : Dev nD → S512x1024.Idx → Elt F .bf16} {G : Dev nD → S1x1024.Idx → Elt F .bf16} {K : GSem nD τ sig → ℕ}

theorem part9 (c : Dev nD) (f : S1024x1024.Idx → Elt F .f32) (v34 : BitVec 32) (v252 : BitVec 32)
    {Q : (FVec F S128x1024 .bf16) → sProp (MT nD τ sig Unit (Elt F) ℕ UU ℕ)} :
    iprop(known P G K
        ∗ ownR c
        ∗ yPt c 3 k3_lt (u2 P (lf c))
        ∗ pPt c (P c)
        ∗ gPt c (G c)
        ∗ oPt c (o0 P G c f))
      ⊢ iprop((iprop(yPt c 3 k3_lt (u2 P (lf c))
          ∗ pPt c (P c)
          ∗ gPt c (G c)
          ∗ oPt c (o1 P G c f))
          -∗ Q (k0_pay5 (u2 P (lf c)) (chunk (P c) (k0_off2 c 2#32) (k0_off2_inb c 2)) (G c)))
        -∗ wp frame (wpE (defs₀ (F := F)) 𝒱₀ (c : Thread nD τ) none) Set.univ
          (k0_part9_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v34 v252) Q) := by
  iintro ⟨#Hk, #HR, Y3, Hp, Hg, Ho⟩ Hc
  unfold k0_part9_skel
  simp only [semSignalWord, semWaitWord, Prog.lift, Prog.bind_op, Prog.bind_ret, Prog.pure_eq_ret]
  iapply (move_load_y c 3 k3_lt (u2 P (lf c))) $$ Y3
  iintro Y3
  iapply (move_load_p c (P c) (k0_off2 c 2#32) (k0_off2_inb c 2)) $$ Hp
  iintro Hp
  iapply (move_load_g c (G c) inb_S1x1024_S1x1024_0_0) $$ Hg
  iintro Hg
  iapply (move_put_o c (o0 P G c f) (k0_off3 c) (k0_off3_inb c) (rs P G c)) $$ Ho
  iintro Ho
  rw [wp_ret]; imodintro
  iapply Hc
  isplitl [Y3]; · iexact Y3
  isplitl [Hp]; · iexact Hp
  isplitl [Hg]; · iexact Hg
  iexact Ho

theorem part10 (c : Dev nD) (v2 : BitVec 32) (v5 : BitVec 32) (v8 : BitVec 32) (v30 : BitVec 32) (v31 : BitVec 32)
    {Q : (PUnit) → sProp (MT nD τ sig Unit (Elt F) ℕ UU ℕ)} :
    iprop(known P G K
        ∗ ownR c
        ∗ reached ER (gD (xp c) 19) 0
        ∗ reached ER (gD (zr c) 12) 0
        ∗ zAny c 0 k0_lt
        ∗ owing c (q8 c)
        ∗ xAny (xp c) 0 k0_lt
        ∗ dutyTok ER (gD c 15) 0 0
        ∗ dutyTok ER (gD (xp c) 19) 0 0
        ∗ zAny (zr c) 1 k1_lt
        ∗ dutyTok ER (gD c 9) 0 0
        ∗ dutyTok ER (gD (zr c) 12) 0 0)
      ⊢ iprop((iprop(owing c (q10 c)
          ∗ cred (tallyAt (gD c 15) () N)
          ∗ cred (tallyAt (gD c 9) () N))
          -∗ Q ⟨⟩)
        -∗ wp frame (wpE (defs₀ (F := F)) 𝒱₀ (c : Thread nD τ) none) Set.univ
          (k0_part10_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v5 v8 v30 v31 (k0_pay5 (u2 P (lf c)) (chunk (P c) (k0_off2 c 2#32) (k0_off2_inb c 2)) (G c))) Q) := by
  iintro ⟨#Hk, #HR, #B19, #B12, Z0, HO, NX0, S15, R19, NZ1, S9, R12⟩ Hc
  unfold k0_part10_skel
  simp only [semSignalWord, semWaitWord, Prog.lift, Prog.bind_op, Prog.bind_ret, Prog.pure_eq_ret]
  iapply (move_put_z c 0 k0_lt (zv P G c)) $$ Z0
  iintro Z0
  ihave Zt := (z_split c 0 k0_lt (zv P G c)) $$ Z0
  icases Zt with ⟨Z0, V0⟩
  icases NX0 with ⟨%g19, NX0⟩
  iapply (step_send c (xp c) 15 19 (by decide) (by decide) (q9 c) (dev9 c _) sem_xs0 sem_xr0 (src := slotM zB 0 k0_lt) (dst := slotM xB 0 k0_lt)
      (q := qR) (fs := spread (zv P G c)) (fd := g19) (credit_x _ _) .rfl (land19 P G c g19)) $$ [V0 NX0 HO S15 R19]
  · isplitr; · iexact Hk
    isplitl [V0]; · iexact V0
    isplitl [NX0]; · iexact NX0
    isplitl [HO]; · iexact HO
    isplitl [S15]; · iexact S15
    isplitr; · iapply (ownR_D c 15 (by decide)); iexact HR
    isplitl [R19]; · iexact R19
    iexact B19
  iintro ⟨C15, HO⟩
  icases NZ1 with ⟨%g12, NZ1⟩
  iapply (step_send c (zr c) 9 12 (by decide) (by decide) (q10 c) (dev10 c _) sem_zs0 sem_zr0 (src := slotM zB 0 k0_lt) (dst := slotM zB 1 k1_lt)
      (q := qL) (fs := spread (zv P G c)) (fd := g12) (credit_z _ _) .rfl (land12 P G c g12)) $$ [Z0 NZ1 HO S9 R12]
  · isplitr; · iexact Hk
    isplitl [Z0]; · iexact Z0
    isplitl [NZ1]; · iexact NZ1
    isplitl [HO]; · iexact HO
    isplitl [S9]; · iexact S9
    isplitr; · iapply (ownR_D c 9 (by decide)); iexact HR
    isplitl [R12]; · iexact R12
    iexact B12
  iintro ⟨C9, HO⟩
  rw [wp_ret]; imodintro
  iapply Hc
  isplitl [HO]; · iexact HO
  isplitl [C15]; · iexact C15
  iexact C9

theorem part11 (c : Dev nD) (v2 : BitVec 32) (v5 : BitVec 32) (v30 : BitVec 32)
    {Q : (BitVec 32) → sProp (MT nD τ sig Unit (Elt F) ℕ UU ℕ)} :
    iprop(known P G K
        ∗ ownR c
        ∗ owing c (q10 c)
        ∗ cred (tallyAt (gD c 15) () N)
        ∗ atPos ER (gD c 15) 0 ∅ 0
        ∗ cred (tallyAt (gD c 9) () N)
        ∗ atPos ER (gD c 9) 0 ∅ 0
        ∗ cred (tallyAt (gD c 12) () N)
        ∗ atPos ER (gD c 12) 0 ∅ 0)
      ⊢ iprop((iprop(owing c (q10 c)
          ∗ atPos ER (gD c 15) 1 ∅ 0
          ∗ atPos ER (gD c 9) 1 ∅ 0
          ∗ zPt c 0 k0_lt fullShare (zv P G c)
          ∗ atPos ER (gD c 12) 1 ∅ 0
          ∗ zPt c 1 k1_lt fullShare (zv P G (zl c)))
          -∗ Q 16#32)
        -∗ wp frame (wpE (defs₀ (F := F)) 𝒱₀ (c : Thread nD τ) none) Set.univ
          (k0_part11_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 v2 v5 v30) Q) := by
  iintro ⟨#Hk, #HR, HO, C15, A15, C9, A9, C12, A12⟩ Hc
  unfold k0_part11_skel
  simp only [semSignalWord, semWaitWord, Prog.lift, Prog.bind_op, Prog.bind_ret, Prog.pure_eq_ret]
  iapply (step_wait_dma c 15 (by decide) (q10 c) sem_xs0 (by rfl) (credit_z 0 k0_lt)) $$ [C15 HO A15]
  · isplitr; · iexact Hk
    isplitl [C15]; · iexact C15
    isplitl [HO]; · iexact HO
    iexact A15
  iintro ⟨HO, A15, V0⟩
  ihave V0 := (Entails.of_eq (show dmaPay P G c ((15 : Fin 23) : ℕ) = zPt c 0 k0_lt qR (zv P G c) from rfl)) $$ V0
  iapply (step_wait_dma c 9 (by decide) (q10 c) sem_zs0 (by rfl) (credit_z 0 k0_lt)) $$ [C9 HO A9]
  · isplitr; · iexact Hk
    isplitl [C9]; · iexact C9
    isplitl [HO]; · iexact HO
    iexact A9
  iintro ⟨HO, A9, Z0⟩
  ihave Z0 := (Entails.of_eq (show dmaPay P G c ((9 : Fin 23) : ℕ) = zPt c 0 k0_lt qL (zv P G c) from rfl)) $$ Z0
  ihave Z0 := (z_join c 0 k0_lt (zv P G c)) $$ [Z0 V0]
  · isplitl [Z0]; · iexact Z0
    iexact V0
  iapply (step_wait_dma c 12 (by decide) (q10 c) sem_zr0 (by rfl) (credit_z 1 k1_lt)) $$ [C12 HO A12]
  · isplitr; · iexact Hk
    isplitl [C12]; · iexact C12
    isplitl [HO]; · iexact HO
    iexact A12
  iintro ⟨HO, A12, Z1⟩
  ihave Z1 := (Entails.of_eq (show dmaPay P G c ((12 : Fin 23) : ℕ) = zPt c 1 k1_lt fullShare (zv P G (zl c)) from rfl)) $$ Z1
  rw [wp_ret]; imodintro
  iapply Hc
  isplitl [HO]; · iexact HO
  isplitl [A15]; · iexact A15
  isplitl [A9]; · iexact A9
  isplitl [Z0]; · iexact Z0
  isplitl [A12]; · iexact A12
  iexact Z1

theorem part12 (c : Dev nD) (v2 : BitVec 32) (v5 : BitVec 32) (v8 : BitVec 32) (v30 : BitVec 32) (v31 : BitVec 32) (c16_i32_273 : BitVec 32)
    {Q : (PUnit) → sProp (MT nD τ sig Unit (Elt F) ℕ UU ℕ)} :
    iprop(known P G K
        ∗ ownR c
        ∗ reached ER (gD (xp c) 20) 0
        ∗ reached ER (gD (zr c) 13) 0
        ∗ zPt c 1 k1_lt fullShare (zv P G (zl c))
        ∗ owing c (q10 c)
        ∗ xAny (xp c) 1 k1_lt
        ∗ dutyTok ER (gD c 16) 0 0
        ∗ dutyTok ER (gD (xp c) 20) 0 0
        ∗ zAny (zr c) 2 k2_lt
        ∗ dutyTok ER (gD c 10) 0 0
        ∗ dutyTok ER (gD (zr c) 13) 0 0)
      ⊢ iprop((iprop(owing c (q12 c)
          ∗ cred (tallyAt (gD c 16) () N)
          ∗ cred (tallyAt (gD c 10) () N))
          -∗ Q ⟨⟩)
        -∗ wp frame (wpE (defs₀ (F := F)) 𝒱₀ (c : Thread nD τ) none) Set.univ
          (k0_part12_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v5 v8 v30 v31 c16_i32_273) Q) := by
  iintro ⟨#Hk, #HR, #B20, #B13, Z1, HO, NX1, S16, R20, NZ2, S10, R13⟩ Hc
  unfold k0_part12_skel
  simp only [semSignalWord, semWaitWord, Prog.lift, Prog.bind_op, Prog.bind_ret, Prog.pure_eq_ret]
  ihave Zt := (z_split c 1 k1_lt (zv P G (zl c))) $$ Z1
  icases Zt with ⟨Z1, V1⟩
  icases NX1 with ⟨%g20, NX1⟩
  iapply (step_send c (xp c) 16 20 (by decide) (by decide) (q11 c) (dev11 c _) sem_xs1 sem_xr1 (src := slotM zB 1 k1_lt) (dst := slotM xB 1 k1_lt)
      (q := qR) (fs := spread (zv P G (zl c))) (fd := g20) (credit_x _ _) .rfl (land20 P G c g20)) $$ [V1 NX1 HO S16 R20]
  · isplitr; · iexact Hk
    isplitl [V1]; · iexact V1
    isplitl [NX1]; · iexact NX1
    isplitl [HO]; · iexact HO
    isplitl [S16]; · iexact S16
    isplitr; · iapply (ownR_D c 16 (by decide)); iexact HR
    isplitl [R20]; · iexact R20
    iexact B20
  iintro ⟨C16, HO⟩
  icases NZ2 with ⟨%g13, NZ2⟩
  iapply (step_send c (zr c) 10 13 (by decide) (by decide) (q12 c) (dev12 c _) sem_zs1 sem_zr1 (src := slotM zB 1 k1_lt) (dst := slotM zB 2 k2_lt)
      (q := qL) (fs := spread (zv P G (zl c))) (fd := g13) (credit_z _ _) .rfl (land13 P G c g13)) $$ [Z1 NZ2 HO S10 R13]
  · isplitr; · iexact Hk
    isplitl [Z1]; · iexact Z1
    isplitl [NZ2]; · iexact NZ2
    isplitl [HO]; · iexact HO
    isplitl [S10]; · iexact S10
    isplitr; · iapply (ownR_D c 10 (by decide)); iexact HR
    isplitl [R13]; · iexact R13
    iexact B13
  iintro ⟨C10, HO⟩
  rw [wp_ret]; imodintro
  iapply Hc
  isplitl [HO]; · iexact HO
  isplitl [C16]; · iexact C16
  iexact C10

theorem part13 (c : Dev nD) (v2 : BitVec 32) (v5 : BitVec 32) (v8 : BitVec 32) (v30 : BitVec 32) (v31 : BitVec 32)
    {Q : (PUnit) → sProp (MT nD τ sig Unit (Elt F) ℕ UU ℕ)} :
    iprop(known P G K
        ∗ ownR c
        ∗ owing c (q12 c)
        ∗ cred (tallyAt (gD c 16) () N)
        ∗ atPos ER (gD c 16) 0 ∅ 0
        ∗ cred (tallyAt (gD c 10) () N)
        ∗ atPos ER (gD c 10) 0 ∅ 0
        ∗ cred (tallyAt (gD c 13) () N)
        ∗ atPos ER (gD c 13) 0 ∅ 0)
      ⊢ iprop((iprop(owing c (q12 c)
          ∗ atPos ER (gD c 16) 1 ∅ 0
          ∗ atPos ER (gD c 10) 1 ∅ 0
          ∗ zPt c 1 k1_lt fullShare (zv P G (zl c))
          ∗ atPos ER (gD c 13) 1 ∅ 0
          ∗ zPt c 2 k2_lt fullShare (zv P G (zl (zl c))))
          -∗ Q ⟨⟩)
        -∗ wp frame (wpE (defs₀ (F := F)) 𝒱₀ (c : Thread nD τ) none) Set.univ
          (k0_part13_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 v2 v5 v8 v30 v31) Q) := by
  iintro ⟨#Hk, #HR, HO, C16, A16, C10, A10, C13, A13⟩ Hc
  unfold k0_part13_skel
  simp only [semSignalWord, semWaitWord, Prog.lift, Prog.bind_op, Prog.bind_ret, Prog.pure_eq_ret]
  iapply (step_wait_dma c 16 (by decide) (q12 c) sem_xs1 (by rfl) (credit_z 1 k1_lt)) $$ [C16 HO A16]
  · isplitr; · iexact Hk
    isplitl [C16]; · iexact C16
    isplitl [HO]; · iexact HO
    iexact A16
  iintro ⟨HO, A16, V1⟩
  ihave V1 := (Entails.of_eq (show dmaPay P G c ((16 : Fin 23) : ℕ) = zPt c 1 k1_lt qR (zv P G (zl c)) from rfl)) $$ V1
  iapply (step_wait_dma c 10 (by decide) (q12 c) sem_zs1 (by rfl) (credit_z 1 k1_lt)) $$ [C10 HO A10]
  · isplitr; · iexact Hk
    isplitl [C10]; · iexact C10
    isplitl [HO]; · iexact HO
    iexact A10
  iintro ⟨HO, A10, Z1⟩
  ihave Z1 := (Entails.of_eq (show dmaPay P G c ((10 : Fin 23) : ℕ) = zPt c 1 k1_lt qL (zv P G (zl c)) from rfl)) $$ Z1
  ihave Z1 := (z_join c 1 k1_lt (zv P G (zl c))) $$ [Z1 V1]
  · isplitl [Z1]; · iexact Z1
    iexact V1
  iapply (step_wait_dma c 13 (by decide) (q12 c) sem_zr1 (by rfl) (credit_z 2 k2_lt)) $$ [C13 HO A13]
  · isplitr; · iexact Hk
    isplitl [C13]; · iexact C13
    isplitl [HO]; · iexact HO
    iexact A13
  iintro ⟨HO, A13, Z2⟩
  ihave Z2 := (Entails.of_eq (show dmaPay P G c ((13 : Fin 23) : ℕ) = zPt c 2 k2_lt fullShare (zv P G (zl (zl c))) from rfl)) $$ Z2
  rw [wp_ret]; imodintro
  iapply Hc
  isplitl [HO]; · iexact HO
  isplitl [A16]; · iexact A16
  isplitl [A10]; · iexact A10
  isplitl [Z1]; · iexact Z1
  isplitl [A13]; · iexact A13
  iexact Z2

theorem part14 (c : Dev nD) (v2 : BitVec 32) (v5 : BitVec 32) (v30 : BitVec 32)
    {Q : (PUnit) → sProp (MT nD τ sig Unit (Elt F) ℕ UU ℕ)} :
    iprop(known P G K
        ∗ ownR c
        ∗ reached ER (gD (xp c) 21) 0
        ∗ reached ER (gD (zr c) 14) 0
        ∗ zPt c 2 k2_lt fullShare (zv P G (zl (zl c)))
        ∗ owing c (q12 c)
        ∗ xAny (xp c) 2 k2_lt
        ∗ dutyTok ER (gD c 17) 0 0
        ∗ dutyTok ER (gD (xp c) 21) 0 0
        ∗ zAny (zr c) 3 k3_lt
        ∗ dutyTok ER (gD c 11) 0 0
        ∗ dutyTok ER (gD (zr c) 14) 0 0
        ∗ atPos ER (gD c 17) 0 ∅ 0)
      ⊢ iprop((iprop(zPt c 2 k2_lt qR (zv P G (zl (zl c)))
          ∗ owing c (q14 c)
          ∗ cred (tallyAt (gD c 11) () N)
          ∗ atPos ER (gD c 17) 1 ∅ 0)
          -∗ Q ⟨⟩)
        -∗ wp frame (wpE (defs₀ (F := F)) 𝒱₀ (c : Thread nD τ) none) Set.univ
          (k0_part14_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v5 v30) Q) := by
  iintro ⟨#Hk, #HR, #B21, #B14, Z2, HO, NX2, S17, R21, NZ3, S11, R14, A17⟩ Hc
  unfold k0_part14_skel
  simp only [semSignalWord, semWaitWord, Prog.lift, Prog.bind_op, Prog.bind_ret, Prog.pure_eq_ret]
  ihave Zt := (z_split c 2 k2_lt (zv P G (zl (zl c)))) $$ Z2
  icases Zt with ⟨Z2, V2⟩
  icases NX2 with ⟨%g21, NX2⟩
  iapply (step_send c (xp c) 17 21 (by decide) (by decide) (q13 c) (dev13 c _) sem_xs2 sem_xr2 (src := slotM zB 2 k2_lt) (dst := slotM xB 2 k2_lt)
      (q := qR) (fs := spread (zv P G (zl (zl c)))) (fd := g21) (credit_x _ _) .rfl (land21 P G c g21)) $$ [V2 NX2 HO S17 R21]
  · isplitr; · iexact Hk
    isplitl [V2]; · iexact V2
    isplitl [NX2]; · iexact NX2
    isplitl [HO]; · iexact HO
    isplitl [S17]; · iexact S17
    isplitr; · iapply (ownR_D c 17 (by decide)); iexact HR
    isplitl [R21]; · iexact R21
    iexact B21
  iintro ⟨C17, HO⟩
  icases NZ3 with ⟨%g14, NZ3⟩
  iapply (step_send c (zr c) 11 14 (by decide) (by decide) (q14 c) (dev14 c _) sem_zs2 sem_zr2 (src := slotM zB 2 k2_lt) (dst := slotM zB 3 k3_lt)
      (q := qL) (fs := spread (zv P G (zl (zl c)))) (fd := g14) (credit_z _ _) .rfl (land14 P G c g14)) $$ [Z2 NZ3 HO S11 R14]
  · isplitr; · iexact Hk
    isplitl [Z2]; · iexact Z2
    isplitl [NZ3]; · iexact NZ3
    isplitl [HO]; · iexact HO
    isplitl [S11]; · iexact S11
    isplitr; · iapply (ownR_D c 11 (by decide)); iexact HR
    isplitl [R14]; · iexact R14
    iexact B14
  iintro ⟨C11, HO⟩
  iapply (step_wait_dma c 17 (by decide) (q14 c) sem_xs2 (by rfl) (credit_z 2 k2_lt)) $$ [C17 HO A17]
  · isplitr; · iexact Hk
    isplitl [C17]; · iexact C17
    isplitl [HO]; · iexact HO
    iexact A17
  iintro ⟨HO, A17, V2⟩
  ihave V2 := (Entails.of_eq (show dmaPay P G c ((17 : Fin 23) : ℕ) = zPt c 2 k2_lt qR (zv P G (zl (zl c))) from rfl)) $$ V2
  rw [wp_ret]; imodintro
  iapply Hc
  isplitl [V2]; · iexact V2
  isplitl [HO]; · iexact HO
  isplitl [C11]; · iexact C11
  iexact A17

theorem part15 (c : Dev nD) (v2 : BitVec 32) (v5 : BitVec 32) (v8 : BitVec 32) (v30 : BitVec 32) (v31 : BitVec 32)
    {Q : (PUnit) → sProp (MT nD τ sig Unit (Elt F) ℕ UU ℕ)} :
    iprop(known P G K
        ∗ ownR c
        ∗ owing c (q14 c)
        ∗ cred (tallyAt (gD c 11) () N)
        ∗ atPos ER (gD c 11) 0 ∅ 0
        ∗ zPt c 2 k2_lt qR (zv P G (zl (zl c)))
        ∗ cred (tallyAt (gD c 14) () N)
        ∗ atPos ER (gD c 14) 0 ∅ 0)
      ⊢ iprop((iprop(owing c (q14 c)
          ∗ atPos ER (gD c 11) 1 ∅ 0
          ∗ zPt c 2 k2_lt fullShare (zv P G (zl (zl c)))
          ∗ atPos ER (gD c 14) 1 ∅ 0
          ∗ zPt c 3 k3_lt fullShare (zv P G (zl (zl (zl c)))))
          -∗ Q ⟨⟩)
        -∗ wp frame (wpE (defs₀ (F := F)) 𝒱₀ (c : Thread nD τ) none) Set.univ
          (k0_part15_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 v2 v5 v8 v30 v31) Q) := by
  iintro ⟨#Hk, #HR, HO, C11, A11, V2, C14, A14⟩ Hc
  unfold k0_part15_skel
  simp only [semSignalWord, semWaitWord, Prog.lift, Prog.bind_op, Prog.bind_ret, Prog.pure_eq_ret]
  iapply (step_wait_dma c 11 (by decide) (q14 c) sem_zs2 (by rfl) (credit_z 2 k2_lt)) $$ [C11 HO A11]
  · isplitr; · iexact Hk
    isplitl [C11]; · iexact C11
    isplitl [HO]; · iexact HO
    iexact A11
  iintro ⟨HO, A11, Z2⟩
  ihave Z2 := (Entails.of_eq (show dmaPay P G c ((11 : Fin 23) : ℕ) = zPt c 2 k2_lt qL (zv P G (zl (zl c))) from rfl)) $$ Z2
  ihave Z2 := (z_join c 2 k2_lt (zv P G (zl (zl c)))) $$ [Z2 V2]
  · isplitl [Z2]; · iexact Z2
    iexact V2
  iapply (step_wait_dma c 14 (by decide) (q14 c) sem_zr2 (by rfl) (credit_z 3 k3_lt)) $$ [C14 HO A14]
  · isplitr; · iexact Hk
    isplitl [C14]; · iexact C14
    isplitl [HO]; · iexact HO
    iexact A14
  iintro ⟨HO, A14, Z3⟩
  ihave Z3 := (Entails.of_eq (show dmaPay P G c ((14 : Fin 23) : ℕ) = zPt c 3 k3_lt fullShare (zv P G (zl (zl (zl c)))) from rfl)) $$ Z3
  rw [wp_ret]; imodintro
  iapply Hc
  isplitl [HO]; · iexact HO
  isplitl [A11]; · iexact A11
  isplitl [Z2]; · iexact Z2
  isplitl [A14]; · iexact A14
  iexact Z3

theorem part16 (c : Dev nD) (v5 : BitVec 32) (v8 : BitVec 32) (v31 : BitVec 32)
    {Q : (BitVec 32) → sProp (MT nD τ sig Unit (Elt F) ℕ UU ℕ)} :
    iprop(known P G K
        ∗ ownR c
        ∗ reached ER (gD (xp c) 22) 0
        ∗ owing c (q14 c)
        ∗ zPt c 3 k3_lt fullShare (zv P G (zl (zl (zl c))))
        ∗ xAny (xp c) 3 k3_lt
        ∗ dutyTok ER (gD c 18) 0 0
        ∗ dutyTok ER (gD (xp c) 22) 0 0
        ∗ atPos ER (gD c 18) 0 ∅ 0)
      ⊢ iprop((∀ v480 : BitVec 32, iprop(owing c (q15 c)
          ∗ zPt c 3 k3_lt fullShare (zv P G (zl (zl (zl c))))
          ∗ atPos ER (gD c 18) 1 ∅ 0)
          -∗ Q v480)
        -∗ wp frame (wpE (defs₀ (F := F)) 𝒱₀ (c : Thread nD τ) none) Set.univ
          (k0_part16_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v5 v8 v31) Q) := by
  iintro ⟨#Hk, #HR, #B22, HO, Z3, NX3, S18, R22, A18⟩ Hc
  unfold k0_part16_skel
  simp only [semSignalWord, semWaitWord, Prog.lift, Prog.bind_op, Prog.bind_ret, Prog.pure_eq_ret]
  icases NX3 with ⟨%g22, NX3⟩
  iapply (step_send c (xp c) 18 22 (by decide) (by decide) (q15 c) (dev15 c _) sem_xs3 sem_xr3 (src := slotM zB 3 k3_lt) (dst := slotM xB 3 k3_lt)
      (q := fullShare) (fs := spread (zv P G (zl (zl (zl c))))) (fd := g22) (credit_x _ _) .rfl (land22 P G c g22)) $$ [Z3 NX3 HO S18 R22]
  · isplitr; · iexact Hk
    isplitl [Z3]; · iexact Z3
    isplitl [NX3]; · iexact NX3
    isplitl [HO]; · iexact HO
    isplitl [S18]; · iexact S18
    isplitr; · iapply (ownR_D c 18 (by decide)); iexact HR
    isplitl [R22]; · iexact R22
    iexact B22
  iintro ⟨C18, HO⟩
  iapply (step_wait_dma c 18 (by decide) (q15 c) sem_xs3 (by rfl) (credit_z 3 k3_lt)) $$ [C18 HO A18]
  · isplitr; · iexact Hk
    isplitl [C18]; · iexact C18
    isplitl [HO]; · iexact HO
    iexact A18
  iintro ⟨HO, A18, Z3⟩
  ihave Z3 := (Entails.of_eq (show dmaPay P G c ((18 : Fin 23) : ℕ) = zPt c 3 k3_lt fullShare (zv P G (zl (zl (zl c)))) from rfl)) $$ Z3
  rw [wp_ret]; imodintro
  iapply Hc
  isplitl [HO]; · iexact HO
  isplitl [Z3]; · iexact Z3
  iexact A18

end Parts

end Cert.KernelIdeal.Proof

end
-- ==== Proof.BodyX.lean ====
module

public import proofs.«01_k».proof.Proof.Dues

@[expose] public section

noncomputable section

namespace Cert.KernelIdeal.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal

variable {F : FTy → Type} [FloatOps F]

local notation "𝕄" => MT nD τ sig Unit (Elt F) ℕ UU ℕ

section Parts

variable {P : Dev nD → S512x1024.Idx → Elt F .bf16} {G : Dev nD → S1x1024.Idx → Elt F .bf16} {K : GSem nD τ sig → ℕ}

theorem part17 (c : Dev nD) (f : S1024x1024.Idx → Elt F .f32) (v2 : BitVec 32) (v8 : BitVec 32) (v31 : BitVec 32) (v480 : BitVec 32)
    {Q : (Σ' (v511 : BitVec 32) (v521 : BitVec 32), BitVec 32) → sProp (MT nD τ sig Unit (Elt F) ℕ UU ℕ)} :
    iprop(known P G K
        ∗ ownR c
        ∗ owing c (q15 c)
        ∗ cred (tallyAt (gD c 19) () N)
        ∗ atPos ER (gD c 19) 0 ∅ 0
        ∗ oPt c (o1 P G c f)
        ∗ zPt c 1 k1_lt fullShare (zv P G (zl c)))
      ⊢ iprop((∀ v511 : BitVec 32, ∀ v521 : BitVec 32, iprop(owing c (q15 c)
          ∗ atPos ER (gD c 19) 1 ∅ 0
          ∗ xPt c 0 k0_lt (zv P G (xp c))
          ∗ oPt c (o3 P G c f)
          ∗ zPt c 1 k1_lt fullShare (zv P G (zl c)))
          -∗ Q ⟨v511, v521, 4#32⟩)
        -∗ wp frame (wpE (defs₀ (F := F)) 𝒱₀ (c : Thread nD τ) none) Set.univ
          (k0_part17_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v8 v31 v480) Q) := by
  iintro ⟨#Hk, #HR, HO, C19, A19, Ho, Z1⟩ Hc
  unfold k0_part17_skel
  simp only [semSignalWord, semWaitWord, Prog.lift, Prog.bind_op, Prog.bind_ret, Prog.pure_eq_ret]
  iapply (step_wait_dma c 19 (by decide) (q15 c) sem_xr0 (by rfl) (credit_x 0 k0_lt)) $$ [C19 HO A19]
  · isplitr; · iexact Hk
    isplitl [C19]; · iexact C19
    isplitl [HO]; · iexact HO
    iexact A19
  iintro ⟨HO, A19, X0⟩
  ihave X0 := (Entails.of_eq (show dmaPay P G c ((19 : Fin 23) : ℕ) = xPt c 0 k0_lt (zv P G (xp c)) from rfl)) $$ X0
  iapply (move_load_x c 0 k0_lt (zv P G (xp c))) $$ X0
  iintro X0
  iapply (move_put_o c (o1 P G c f) (k0_off4 c 0#32) (k0_off4_inb c 0) (k0_pay7 (zv P G (xp c)))) $$ Ho
  iintro Ho
  iapply (move_load_z c 1 k1_lt fullShare (zv P G (zl c))) $$ Z1
  iintro Z1
  iapply (move_put_o c (o2 P G c f) (k0_off5 c 1#32) (k0_off5_inb c 0) (k0_pay8 (zv P G (zl c)))) $$ Ho
  iintro Ho
  rw [wp_ret]; imodintro
  iapply Hc
  isplitl [HO]; · iexact HO
  isplitl [A19]; · iexact A19
  isplitl [X0]; · iexact X0
  isplitl [Ho]; · iexact Ho
  iexact Z1

theorem part18 (c : Dev nD) (f : S1024x1024.Idx → Elt F .f32) (v2 : BitVec 32) (v5 : BitVec 32) (v8 : BitVec 32) (v31 : BitVec 32) (v511 : BitVec 32) (v521 : BitVec 32) (c4_i32_442 : BitVec 32)
    {Q : (Σ' (v550 : BitVec 32) (v553 : FVec F S128x1024 .f32), BitVec 32) → sProp (MT nD τ sig Unit (Elt F) ℕ UU ℕ)} :
    iprop(known P G K
        ∗ ownR c
        ∗ owing c (q15 c)
        ∗ cred (tallyAt (gD c 20) () N)
        ∗ atPos ER (gD c 20) 0 ∅ 0
        ∗ oPt c (o3 P G c f)
        ∗ zPt c 2 k2_lt fullShare (zv P G (zl (zl c))))
      ⊢ iprop((∀ v550 : BitVec 32, ∀ v556 : BitVec 32, iprop(owing c (q15 c)
          ∗ atPos ER (gD c 20) 1 ∅ 0
          ∗ xPt c 1 k1_lt (zv P G (zl (xp c)))
          ∗ oPt c (o4 P G c f)
          ∗ zPt c 2 k2_lt fullShare (zv P G (zl (zl c))))
          -∗ Q ⟨v550, (k0_pay10 (zv P G (zl (zl c)))), v556⟩)
        -∗ wp frame (wpE (defs₀ (F := F)) 𝒱₀ (c : Thread nD τ) none) Set.univ
          (k0_part18_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v5 v8 v31 v511 v521 c4_i32_442) Q) := by
  iintro ⟨#Hk, #HR, HO, C20, A20, Ho, Z2⟩ Hc
  unfold k0_part18_skel
  simp only [semSignalWord, semWaitWord, Prog.lift, Prog.bind_op, Prog.bind_ret, Prog.pure_eq_ret]
  iapply (step_wait_dma c 20 (by decide) (q15 c) sem_xr1 (by rfl) (credit_x 1 k1_lt)) $$ [C20 HO A20]
  · isplitr; · iexact Hk
    isplitl [C20]; · iexact C20
    isplitl [HO]; · iexact HO
    iexact A20
  iintro ⟨HO, A20, X1⟩
  ihave X1 := (Entails.of_eq (show dmaPay P G c ((20 : Fin 23) : ℕ) = xPt c 1 k1_lt (zv P G (zl (xp c))) from rfl)) $$ X1
  iapply (move_load_x c 1 k1_lt (zv P G (zl (xp c)))) $$ X1
  iintro X1
  iapply (move_put_o c (o3 P G c f) (k0_off4 c 1#32) (k0_off4_inb c 1) (k0_pay9 (zv P G (zl (xp c))))) $$ Ho
  iintro Ho
  iapply (move_load_z c 2 k2_lt fullShare (zv P G (zl (zl c)))) $$ Z2
  iintro Z2
  rw [wp_ret]; imodintro
  iapply Hc
  isplitl [HO]; · iexact HO
  isplitl [A20]; · iexact A20
  isplitl [X1]; · iexact X1
  isplitl [Ho]; · iexact Ho
  iexact Z2

theorem part19 (c : Dev nD) (f : S1024x1024.Idx → Elt F .f32) (v5 : BitVec 32) (v8 : BitVec 32) (v31 : BitVec 32) (v550 : BitVec 32) (v556 : BitVec 32)
    {Q : (Σ' (v581 : BitVec 32) (v582 : BitVec 32), BitVec 1) → sProp (MT nD τ sig Unit (Elt F) ℕ UU ℕ)} :
    iprop(known P G K
        ∗ ownR c
        ∗ oPt c (o4 P G c f)
        ∗ owing c (q15 c)
        ∗ cred (tallyAt (gD c 21) () N)
        ∗ atPos ER (gD c 21) 0 ∅ 0)
      ⊢ iprop((∀ v581 : BitVec 32, ∀ v582 : BitVec 32, ∀ v587 : BitVec 1, iprop(oPt c (o6 P G c f)
          ∗ owing c (q15 c)
          ∗ atPos ER (gD c 21) 1 ∅ 0
          ∗ xPt c 2 k2_lt (zv P G (zl (zl (xp c)))))
          -∗ Q ⟨v581, v582, v587⟩)
        -∗ wp frame (wpE (defs₀ (F := F)) 𝒱₀ (c : Thread nD τ) none) Set.univ
          (k0_part19_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v5 v8 v31 v550 (k0_pay10 (zv P G (zl (zl c)))) v556) Q) := by
  iintro ⟨#Hk, #HR, Ho, HO, C21, A21⟩ Hc
  unfold k0_part19_skel
  simp only [semSignalWord, semWaitWord, Prog.lift, Prog.bind_op, Prog.bind_ret, Prog.pure_eq_ret]
  iapply (move_put_o c (o4 P G c f) (k0_off5 c 2#32) (k0_off5_inb c 1) (k0_pay10 (zv P G (zl (zl c))))) $$ Ho
  iintro Ho
  iapply (step_wait_dma c 21 (by decide) (q15 c) sem_xr2 (by rfl) (credit_x 2 k2_lt)) $$ [C21 HO A21]
  · isplitr; · iexact Hk
    isplitl [C21]; · iexact C21
    isplitl [HO]; · iexact HO
    iexact A21
  iintro ⟨HO, A21, X2⟩
  ihave X2 := (Entails.of_eq (show dmaPay P G c ((21 : Fin 23) : ℕ) = xPt c 2 k2_lt (zv P G (zl (zl (xp c)))) from rfl)) $$ X2
  iapply (move_load_x c 2 k2_lt (zv P G (zl (zl (xp c))))) $$ X2
  iintro X2
  iapply (move_put_o c (o5 P G c f) (k0_off4 c 2#32) (k0_off4_inb c 2) (k0_pay11 (zv P G (zl (zl (xp c)))))) $$ Ho
  iintro Ho
  rw [wp_ret]; imodintro
  iapply Hc
  isplitl [Ho]; · iexact Ho
  isplitl [HO]; · iexact HO
  isplitl [A21]; · iexact A21
  iexact X2

theorem part20 (c : Dev nD) (f : S1024x1024.Idx → Elt F .f32) (v2 : BitVec 32) (v5 : BitVec 32) (v8 : BitVec 32) (v31 : BitVec 32) (v581 : BitVec 32) (v582 : BitVec 32) (v587 : BitVec 1)
    {Q : (BitVec 32) → sProp (MT nD τ sig Unit (Elt F) ℕ UU ℕ)} :
    iprop(known P G K
        ∗ ownR c
        ∗ zPt c 3 k3_lt fullShare (zv P G (zl (zl (zl c))))
        ∗ oPt c (o6 P G c f)
        ∗ owing c (q15 c)
        ∗ cred (tallyAt (gD c 22) () N)
        ∗ atPos ER (gD c 22) 0 ∅ 0)
      ⊢ iprop((∀ v619 : BitVec 32, iprop(zPt c 3 k3_lt fullShare (zv P G (zl (zl (zl c))))
          ∗ oPt c (o8 P G c f)
          ∗ owing c (q15 c)
          ∗ atPos ER (gD c 22) 1 ∅ 0
          ∗ xPt c 3 k3_lt (zv P G (zl (zl (zl (xp c))))))
          -∗ Q v619)
        -∗ wp frame (wpE (defs₀ (F := F)) 𝒱₀ (c : Thread nD τ) none) Set.univ
          (k0_part20_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v5 v8 v31 v581 v582 v587) Q) := by
  iintro ⟨#Hk, #HR, Z3, Ho, HO, C22, A22⟩ Hc
  unfold k0_part20_skel
  simp only [semSignalWord, semWaitWord, Prog.lift, Prog.bind_op, Prog.bind_ret, Prog.pure_eq_ret]
  iapply (move_load_z c 3 k3_lt fullShare (zv P G (zl (zl (zl c))))) $$ Z3
  iintro Z3
  iapply (move_put_o c (o6 P G c f) (k0_off5 c 3#32) (k0_off5_inb c 2) (k0_pay12 (zv P G (zl (zl (zl c)))))) $$ Ho
  iintro Ho
  iapply (step_wait_dma c 22 (by decide) (q15 c) sem_xr3 (by rfl) (credit_x 3 k3_lt)) $$ [C22 HO A22]
  · isplitr; · iexact Hk
    isplitl [C22]; · iexact C22
    isplitl [HO]; · iexact HO
    iexact A22
  iintro ⟨HO, A22, X3⟩
  ihave X3 := (Entails.of_eq (show dmaPay P G c ((22 : Fin 23) : ℕ) = xPt c 3 k3_lt (zv P G (zl (zl (zl (xp c))))) from rfl)) $$ X3
  iapply (move_load_x c 3 k3_lt (zv P G (zl (zl (zl (xp c)))))) $$ X3
  iintro X3
  iapply (move_put_o c (o7 P G c f) (k0_off4 c 3#32) (k0_off4_inb c 3) (k0_pay13 (zv P G (zl (zl (zl (xp c))))))) $$ Ho
  iintro Ho
  rw [wp_ret]; imodintro
  iapply Hc
  isplitl [Z3]; · iexact Z3
  isplitl [Ho]; · iexact Ho
  isplitl [HO]; · iexact HO
  isplitl [A22]; · iexact A22
  iexact X3

theorem part21 (c : Dev nD) (v2 : BitVec 32) (v5 : BitVec 32) (v8 : BitVec 32) (v19 : BitVec 32) (v30 : BitVec 32) (v31 : BitVec 32) (v46 : BitVec 32) (v57 : BitVec 32) (v619_r0 : BitVec 32)
    {Q : (PUnit) → sProp (MT nD τ sig Unit (Elt F) ℕ UU ℕ)} :
    iprop(known P G K
        ∗ ownR c
        ∗ reached ER (gR (lf c) 1) 0
        ∗ reached ER (gR (rt c) 1) 0
        ∗ reached ER (gR (zl c) 1) 0
        ∗ reached ER (gR (zr c) 1) 0
        ∗ reached ER (gR (xp c) 1) 0
        ∗ owing c (q15 c)
        ∗ dutyTok ER (gR (lf c) 1) 0 1
        ∗ dutyTok ER (gR (rt c) 1) 0 0
        ∗ dutyTok ER (gR (zl c) 1) 0 3
        ∗ dutyTok ER (gR (zr c) 1) 0 2
        ∗ dutyTok ER (gR (xp c) 1) 0 4
        ∗ cred (tallyAt (gR c 1) () 5)
        ∗ atPos ER (gR c 1) 0 ∅ 0)
      ⊢ iprop((iprop(owing c (q20 c)
          ∗ atPos ER (gR c 1) 1 ∅ 0)
          -∗ Q ⟨⟩)
        -∗ wp frame (wpE (defs₀ (F := F)) 𝒱₀ (c : Thread nD τ) none) Set.univ
          (k0_part21_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0 c v2 v5 v8 v19 v30 v31 v46 v57 v619_r0) Q) := by
  iintro ⟨#Hk, #HR, #Blf, #Brt, #Bzl, #Bzr, #Bxp, HO, U0, U1, U2, U3, U4, C1, A1⟩ Hc
  unfold k0_part21_skel
  simp only [semSignalWord, semWaitWord, Prog.lift, Prog.bind_op, Prog.bind_ret, Prog.pure_eq_ret]
  iapply (step_signal c (lf c) 1 1 (q16 c) (dev16 c _) rfl) $$ [HO U0]
  · isplitr; · iexact Hk
    isplitl [HO]; · iexact HO
    isplitl [U0]; · iexact U0
    isplitr; · iempintro
    iexact Blf
  iintro HO
  iapply (step_signal c (rt c) 1 0 (q17 c) (dev17 c _) rfl) $$ [HO U1]
  · isplitr; · iexact Hk
    isplitl [HO]; · iexact HO
    isplitl [U1]; · iexact U1
    isplitr; · iempintro
    iexact Brt
  iintro HO
  iapply (step_signal c (zl c) 1 3 (q18 c) (dev18 c _) rfl) $$ [HO U2]
  · isplitr; · iexact Hk
    isplitl [HO]; · iexact HO
    isplitl [U2]; · iexact U2
    isplitr; · iempintro
    iexact Bzl
  iintro HO
  iapply (step_signal c (zr c) 1 2 (q19 c) (dev19 c _) rfl) $$ [HO U3]
  · isplitr; · iexact Hk
    isplitl [HO]; · iexact HO
    isplitl [U3]; · iexact U3
    isplitr; · iempintro
    iexact Bzr
  iintro HO
  iapply (step_signal c (xp c) 1 4 (q20 c) (dev20 c _) rfl) $$ [HO U4]
  · isplitr; · iexact Hk
    isplitl [HO]; · iexact HO
    isplitl [U4]; · iexact U4
    isplitr; · iempintro
    iexact Bxp
  iintro HO
  iapply (step_wait_reg c 1 (q20 c) rfl (by rfl)) $$ [C1 HO A1]
  · isplitr; · iexact Hk
    isplitl [C1]; · iexact C1
    isplitl [HO]; · iexact HO
    iexact A1
  iintro ⟨HO, A1, -⟩
  rw [wp_ret]; imodintro
  iapply Hc
  isplitl [HO]; · iexact HO
  iexact A1

end Parts

end Cert.KernelIdeal.Proof

end
-- ==== Proof.Body.lean ====
module

public import proofs.«01_k».proof.Proof.BodyY
public import proofs.«01_k».proof.Proof.BodyZ
public import proofs.«01_k».proof.Proof.BodyX

@[expose] public section

noncomputable section

namespace Cert.KernelIdeal.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal

variable {F : FTy → Type} [FloatOps F]

local notation "𝕄" => MT nD τ sig Unit (Elt F) ℕ UU ℕ

/-! ## The kernel's body on one device -/

/-- Where the cells a device opened stand. -/
def atAll (r : ℕ) (c : Dev nD) : sProp 𝕄 := iprop(atPos ER (gR c 1) r ∅ 0
  ∗ atPos ER (gD c 3) r ∅ 0
  ∗ atPos ER (gD c 4) r ∅ 0
  ∗ atPos ER (gD c 5) r ∅ 0
  ∗ atPos ER (gD c 6) r ∅ 0
  ∗ atPos ER (gD c 7) r ∅ 0
  ∗ atPos ER (gD c 8) r ∅ 0
  ∗ atPos ER (gD c 9) r ∅ 0
  ∗ atPos ER (gD c 10) r ∅ 0
  ∗ atPos ER (gD c 11) r ∅ 0
  ∗ atPos ER (gD c 12) r ∅ 0
  ∗ atPos ER (gD c 13) r ∅ 0
  ∗ atPos ER (gD c 14) r ∅ 0
  ∗ atPos ER (gD c 15) r ∅ 0
  ∗ atPos ER (gD c 16) r ∅ 0
  ∗ atPos ER (gD c 17) r ∅ 0
  ∗ atPos ER (gD c 18) r ∅ 0
  ∗ atPos ER (gD c 19) r ∅ 0
  ∗ atPos ER (gD c 20) r ∅ 0
  ∗ atPos ER (gD c 21) r ∅ 0
  ∗ atPos ER (gD c 22) r ∅ 0)

/-- What the neighbours' payments to a device amount to. -/
def crAll (c : Dev nD) : sProp 𝕄 := iprop(cred (tallyAt (gR c 0) () 5)
  ∗ cred (tallyAt (gR c 1) () 5)
  ∗ cred (tallyAt (gD c 6) () N)
  ∗ cred (tallyAt (gD c 7) () N)
  ∗ cred (tallyAt (gD c 8) () N)
  ∗ cred (tallyAt (gD c 12) () N)
  ∗ cred (tallyAt (gD c 13) () N)
  ∗ cred (tallyAt (gD c 14) () N)
  ∗ cred (tallyAt (gD c 19) () N)
  ∗ cred (tallyAt (gD c 20) () N)
  ∗ cred (tallyAt (gD c 21) () N)
  ∗ cred (tallyAt (gD c 22) () N))

/-- The duties a device pays. -/
def tkAll (c : Dev nD) : sProp 𝕄 := iprop(dutyTok ER (gR (lf c) 0) 0 1
  ∗ dutyTok ER (gR (rt c) 0) 0 0
  ∗ dutyTok ER (gR (zl c) 0) 0 3
  ∗ dutyTok ER (gR (zr c) 0) 0 2
  ∗ dutyTok ER (gR (xp c) 0) 0 4
  ∗ dutyTok ER (gR (lf c) 1) 0 1
  ∗ dutyTok ER (gR (rt c) 1) 0 0
  ∗ dutyTok ER (gR (zl c) 1) 0 3
  ∗ dutyTok ER (gR (zr c) 1) 0 2
  ∗ dutyTok ER (gR (xp c) 1) 0 4
  ∗ dutyTok ER (gD c 3) 0 0
  ∗ dutyTok ER (gD c 4) 0 0
  ∗ dutyTok ER (gD c 5) 0 0
  ∗ dutyTok ER (gD (rt c) 6) 0 0
  ∗ dutyTok ER (gD (rt c) 7) 0 0
  ∗ dutyTok ER (gD (rt c) 8) 0 0
  ∗ dutyTok ER (gD c 9) 0 0
  ∗ dutyTok ER (gD c 10) 0 0
  ∗ dutyTok ER (gD c 11) 0 0
  ∗ dutyTok ER (gD (zr c) 12) 0 0
  ∗ dutyTok ER (gD (zr c) 13) 0 0
  ∗ dutyTok ER (gD (zr c) 14) 0 0
  ∗ dutyTok ER (gD c 15) 0 0
  ∗ dutyTok ER (gD c 16) 0 0
  ∗ dutyTok ER (gD c 17) 0 0
  ∗ dutyTok ER (gD c 18) 0 0
  ∗ dutyTok ER (gD (xp c) 19) 0 0
  ∗ dutyTok ER (gD (xp c) 20) 0 0
  ∗ dutyTok ER (gD (xp c) 21) 0 0
  ∗ dutyTok ER (gD (xp c) 22) 0 0)

/-- The communication buffers, at any contents. -/
def bufAll (c : Dev nD) : sProp 𝕄 := iprop(yAny c 0 k0_lt
  ∗ yAny c 1 k1_lt
  ∗ yAny c 2 k2_lt
  ∗ yAny c 3 k3_lt
  ∗ zAny c 0 k0_lt
  ∗ zAny c 1 k1_lt
  ∗ zAny c 2 k2_lt
  ∗ zAny c 3 k3_lt
  ∗ xAny c 0 k0_lt
  ∗ xAny c 1 k1_lt
  ∗ xAny c 2 k2_lt
  ∗ xAny c 3 k3_lt)

/-- The kernel's head reads which device it runs on. -/
theorem part1 (c : Dev nD) {Q : (Σ' (d0 : Dev nD) (v2 : BitVec 32) (v5 : BitVec 32) (v8 : BitVec 32) (v19 : BitVec 32) (v30 : BitVec 32) (v31 : BitVec 32) (v34 : BitVec 32), Sems sig S_) → sProp (MT nD τ sig Unit (Elt F) ℕ UU ℕ)} :
    iprop(∀ v2 : BitVec 32, ∀ v5 : BitVec 32, ∀ v8 : BitVec 32, ∀ v19 : BitVec 32, ∀ v30 : BitVec 32, ∀ v31 : BitVec 32, ∀ v34 : BitVec 32,
        Q ⟨c, v2, v5, v8, v19, v30, v31, v34, SemArray.scalar (sig.barrier 0 rfl)⟩)
      ⊢ wp frame (wpE (defs₀ (F := F)) 𝒱₀ (c : Thread nD τ) none) Set.univ
          (k0_part1_skel pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0) Q := by
  iintro H
  unfold k0_part1_skel
  simp only [Prog.lift, Prog.bind_op, Prog.bind_ret, Prog.pure_eq_ret, wp_deviceId]
  rw [wp_ret]; imodintro
  iapply H

set_option maxHeartbeats 4000000 in
theorem body_run {P : Dev nD → S512x1024.Idx → Elt F .bf16} {G : Dev nD → S1x1024.Idx → Elt F .bf16} {K : GSem nD τ sig → ℕ}
    (c : Dev nD) (f : S1024x1024.Idx → Elt F .f32) {Q : PUnit → sProp (MT nD τ sig Unit (Elt F) ℕ UU ℕ)} :
    iprop(known P G K ∗ ownR c ∗ owing c (q0 c) ∗ atPos ER (gR c 0) 0 ∅ 0 ∗ atAll 0 c ∗ crAll c ∗ tkAll c ∗ bufAll c ∗ pPt c (P c) ∗ gPt c (G c) ∗ oPt c f)
      ⊢ iprop((iprop(owing c [] ∗ atPos ER (gR c 0) 1 ∅ 0 ∗ atAll 1 c ∗ bufAll c ∗ pPt c (P c) ∗ gPt c (G c) ∗ oPt c (o8 P G c f)) -∗ Q ⟨⟩)
        -∗ wp frame (wpE (defs₀ (F := F)) 𝒱₀ (c : Thread nD τ) none) Set.univ
          (cc0_body pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0) Q) := by
  unfold atAll crAll tkAll bufAll
  iintro ⟨#Hk, #HR, HO, A0, ⟨A1, A3, A4, A5, A6, A7, A8, A9, A10, A11, A12, A13, A14, A15, A16, A17, A18, A19, A20, A21, A22⟩, ⟨C0, C1, C6, C7, C8, C12, C13, C14, C19, C20, C21, C22⟩, ⟨T0, T1, T2, T3, T4, U0, U1, U2, U3, U4, S3, S4, S5, R6, R7, R8, S9, S10, S11, R12, R13, R14, S15, S16, S17, S18, R19, R20, R21, R22⟩, ⟨Y0, Y1, Y2, Y3, Z0, Z1, Z2, Z3, X0, X1, X2, X3⟩, Hp, Hg, Ho⟩ Hc
  rw [cc0_body_eq_skeleton]
  unfold cc0_body_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  rw [wp_bind]
  iapply (part1 c)
  iintro %v2 %v5 %v8 %v19 %v30 %v31 %v34
  dsimp -failIfUnchanged only
  rw [wp_bind]
  iapply (part2 c _ _ _ _) $$ [Y1 Y2 Y3 HO T0 T1]
  · isplitr; · iexact Hk
    isplitr; · iexact HR
    isplitl [Y1]; · iexact Y1
    isplitl [Y2]; · iexact Y2
    isplitl [Y3]; · iexact Y3
    isplitl [HO]; · iexact HO
    isplitl [T0]; · iexact T0
    iexact T1
  iintro %v46 %v57
  iintro HO
  dsimp -failIfUnchanged only
  rw [wp_bind]
  iapply (part3 c _ _ _ _ _ _) $$ [HO T2 Z1 Z2 Z3 T3 T4 X0 X1 X2 X3 C0 A0]
  · isplitr; · iexact Hk
    isplitr; · iexact HR
    isplitl [HO]; · iexact HO
    isplitl [T2]; · iexact T2
    isplitl [Z1]; · iexact Z1
    isplitl [Z2]; · iexact Z2
    isplitl [Z3]; · iexact Z3
    isplitl [T3]; · iexact T3
    isplitl [T4]; · iexact T4
    isplitl [X0]; · iexact X0
    isplitl [X1]; · iexact X1
    isplitl [X2]; · iexact X2
    isplitl [X3]; · iexact X3
    isplitl [C0]; · iexact C0
    iexact A0
  iintro ⟨HO, A0, Hpay⟩
  dsimp -failIfUnchanged only
  unfold barPay yFree zFree xFree
  icases Hpay with ⟨#Blf, ⟨#Brt, NY1, NY2, NY3, #B6, #B7, #B8⟩, #Bzl, ⟨#Bzr, NZ1, NZ2, NZ3, #B12, #B13, #B14⟩,
    ⟨#Bxp, NX0, NX1, NX2, NX3, #B19, #B20, #B21, #B22⟩⟩
  rw [wp_bind]
  iapply (part4 c _ _ _) $$ [Hp Y0 HO NY1 S3 R6 A3]
  · isplitr; · iexact Hk
    isplitr; · iexact HR
    isplitr; · iexact B6
    isplitl [Hp]; · iexact Hp
    isplitl [Y0]; · iexact Y0
    isplitl [HO]; · iexact HO
    isplitl [NY1]; · iexact NY1
    isplitl [S3]; · iexact S3
    isplitl [R6]; · iexact R6
    iexact A3
  iintro %v126
  iintro ⟨Hp, Y0, HO, A3⟩
  dsimp -failIfUnchanged only
  rw [wp_bind]
  iapply (part5 c _ _ _ _ _) $$ [HO C6 A6 Hp]
  · isplitr; · iexact Hk
    isplitr; · iexact HR
    isplitl [HO]; · iexact HO
    isplitl [C6]; · iexact C6
    isplitl [A6]; · iexact A6
    iexact Hp
  iintro ⟨HO, A6, Y1, Hp⟩
  dsimp -failIfUnchanged only
  rw [wp_bind]
  iapply (part6 c _ _ _) $$ [HO Y1 NY2 S4 R7 A4]
  · isplitr; · iexact Hk
    isplitr; · iexact HR
    isplitr; · iexact B7
    isplitl [HO]; · iexact HO
    isplitl [Y1]; · iexact Y1
    isplitl [NY2]; · iexact NY2
    isplitl [S4]; · iexact S4
    isplitl [R7]; · iexact R7
    iexact A4
  iintro ⟨HO, Y1, A4⟩
  dsimp -failIfUnchanged only
  rw [wp_bind]
  iapply (part7 c _ _ _) $$ [HO C7 A7 Hp]
  · isplitr; · iexact Hk
    isplitr; · iexact HR
    isplitl [HO]; · iexact HO
    isplitl [C7]; · iexact C7
    isplitl [A7]; · iexact A7
    iexact Hp
  iintro %v221 %v222
  iintro ⟨HO, A7, Y2, Hp⟩
  dsimp -failIfUnchanged only
  rw [wp_bind]
  iapply (part8 c _ _ _ _ _ _) $$ [HO Y2 NY3 S5 R8 A5 C8 A8]
  · isplitr; · iexact Hk
    isplitr; · iexact HR
    isplitr; · iexact B8
    isplitl [HO]; · iexact HO
    isplitl [Y2]; · iexact Y2
    isplitl [NY3]; · iexact NY3
    isplitl [S5]; · iexact S5
    isplitl [R8]; · iexact R8
    isplitl [A5]; · iexact A5
    isplitl [C8]; · iexact C8
    iexact A8
  iintro %v252
  iintro ⟨HO, Y2, A5, A8, Y3⟩
  dsimp -failIfUnchanged only
  rw [wp_bind]
  iapply (part9 c f _ _) $$ [Y3 Hp Hg Ho]
  · isplitr; · iexact Hk
    isplitr; · iexact HR
    isplitl [Y3]; · iexact Y3
    isplitl [Hp]; · iexact Hp
    isplitl [Hg]; · iexact Hg
    iexact Ho
  iintro ⟨Y3, Hp, Hg, Ho⟩
  dsimp -failIfUnchanged only
  rw [wp_bind]
  iapply (part10 c _ _ _ _ _) $$ [Z0 HO NX0 S15 R19 NZ1 S9 R12]
  · isplitr; · iexact Hk
    isplitr; · iexact HR
    isplitr; · iexact B19
    isplitr; · iexact B12
    isplitl [Z0]; · iexact Z0
    isplitl [HO]; · iexact HO
    isplitl [NX0]; · iexact NX0
    isplitl [S15]; · iexact S15
    isplitl [R19]; · iexact R19
    isplitl [NZ1]; · iexact NZ1
    isplitl [S9]; · iexact S9
    iexact R12
  iintro ⟨HO, C15, C9⟩
  dsimp -failIfUnchanged only
  rw [wp_bind]
  iapply (part11 c _ _ _) $$ [HO C15 A15 C9 A9 C12 A12]
  · isplitr; · iexact Hk
    isplitr; · iexact HR
    isplitl [HO]; · iexact HO
    isplitl [C15]; · iexact C15
    isplitl [A15]; · iexact A15
    isplitl [C9]; · iexact C9
    isplitl [A9]; · iexact A9
    isplitl [C12]; · iexact C12
    iexact A12
  iintro ⟨HO, A15, A9, Z0, A12, Z1⟩
  dsimp -failIfUnchanged only
  rw [wp_bind]
  iapply (part12 c _ _ _ _ _ _) $$ [Z1 HO NX1 S16 R20 NZ2 S10 R13]
  · isplitr; · iexact Hk
    isplitr; · iexact HR
    isplitr; · iexact B20
    isplitr; · iexact B13
    isplitl [Z1]; · iexact Z1
    isplitl [HO]; · iexact HO
    isplitl [NX1]; · iexact NX1
    isplitl [S16]; · iexact S16
    isplitl [R20]; · iexact R20
    isplitl [NZ2]; · iexact NZ2
    isplitl [S10]; · iexact S10
    iexact R13
  iintro ⟨HO, C16, C10⟩
  dsimp -failIfUnchanged only
  rw [wp_bind]
  iapply (part13 c _ _ _ _ _) $$ [HO C16 A16 C10 A10 C13 A13]
  · isplitr; · iexact Hk
    isplitr; · iexact HR
    isplitl [HO]; · iexact HO
    isplitl [C16]; · iexact C16
    isplitl [A16]; · iexact A16
    isplitl [C10]; · iexact C10
    isplitl [A10]; · iexact A10
    isplitl [C13]; · iexact C13
    iexact A13
  iintro ⟨HO, A16, A10, Z1, A13, Z2⟩
  dsimp -failIfUnchanged only
  rw [wp_bind]
  iapply (part14 c _ _ _) $$ [Z2 HO NX2 S17 R21 NZ3 S11 R14 A17]
  · isplitr; · iexact Hk
    isplitr; · iexact HR
    isplitr; · iexact B21
    isplitr; · iexact B14
    isplitl [Z2]; · iexact Z2
    isplitl [HO]; · iexact HO
    isplitl [NX2]; · iexact NX2
    isplitl [S17]; · iexact S17
    isplitl [R21]; · iexact R21
    isplitl [NZ3]; · iexact NZ3
    isplitl [S11]; · iexact S11
    isplitl [R14]; · iexact R14
    iexact A17
  iintro ⟨V2, HO, C11, A17⟩
  dsimp -failIfUnchanged only
  rw [wp_bind]
  iapply (part15 c _ _ _ _ _) $$ [HO C11 A11 V2 C14 A14]
  · isplitr; · iexact Hk
    isplitr; · iexact HR
    isplitl [HO]; · iexact HO
    isplitl [C11]; · iexact C11
    isplitl [A11]; · iexact A11
    isplitl [V2]; · iexact V2
    isplitl [C14]; · iexact C14
    iexact A14
  iintro ⟨HO, A11, Z2, A14, Z3⟩
  dsimp -failIfUnchanged only
  rw [wp_bind]
  iapply (part16 c _ _ _) $$ [HO Z3 NX3 S18 R22 A18]
  · isplitr; · iexact Hk
    isplitr; · iexact HR
    isplitr; · iexact B22
    isplitl [HO]; · iexact HO
    isplitl [Z3]; · iexact Z3
    isplitl [NX3]; · iexact NX3
    isplitl [S18]; · iexact S18
    isplitl [R22]; · iexact R22
    iexact A18
  iintro %v480
  iintro ⟨HO, Z3, A18⟩
  dsimp -failIfUnchanged only
  rw [wp_bind]
  iapply (part17 c f _ _ _ _) $$ [HO C19 A19 Ho Z1]
  · isplitr; · iexact Hk
    isplitr; · iexact HR
    isplitl [HO]; · iexact HO
    isplitl [C19]; · iexact C19
    isplitl [A19]; · iexact A19
    isplitl [Ho]; · iexact Ho
    iexact Z1
  iintro %v511 %v521
  iintro ⟨HO, A19, X0, Ho, Z1⟩
  dsimp -failIfUnchanged only
  rw [wp_bind]
  iapply (part18 c f _ _ _ _ _ _ _) $$ [HO C20 A20 Ho Z2]
  · isplitr; · iexact Hk
    isplitr; · iexact HR
    isplitl [HO]; · iexact HO
    isplitl [C20]; · iexact C20
    isplitl [A20]; · iexact A20
    isplitl [Ho]; · iexact Ho
    iexact Z2
  iintro %v550 %v556
  iintro ⟨HO, A20, X1, Ho, Z2⟩
  dsimp -failIfUnchanged only
  rw [wp_bind]
  iapply (part19 c f _ _ _ _ _) $$ [Ho HO C21 A21]
  · isplitr; · iexact Hk
    isplitr; · iexact HR
    isplitl [Ho]; · iexact Ho
    isplitl [HO]; · iexact HO
    isplitl [C21]; · iexact C21
    iexact A21
  iintro %v581 %v582 %v587
  iintro ⟨Ho, HO, A21, X2⟩
  dsimp -failIfUnchanged only
  rw [wp_bind]
  iapply (part20 c f _ _ _ _ _ _ _) $$ [Z3 Ho HO C22 A22]
  · isplitr; · iexact Hk
    isplitr; · iexact HR
    isplitl [Z3]; · iexact Z3
    isplitl [Ho]; · iexact Ho
    isplitl [HO]; · iexact HO
    isplitl [C22]; · iexact C22
    iexact A22
  iintro %v619
  iintro ⟨Z3, Ho, HO, A22, X3⟩
  dsimp -failIfUnchanged only
  rw [wp_bind]
  iapply (part21 c _ _ _ _ _ _ _ _ _) $$ [HO U0 U1 U2 U3 U4 C1 A1]
  · isplitr; · iexact Hk
    isplitr; · iexact HR
    isplitr; · iexact Blf
    isplitr; · iexact Brt
    isplitr; · iexact Bzl
    isplitr; · iexact Bzr
    isplitr; · iexact Bxp
    isplitl [HO]; · iexact HO
    isplitl [U0]; · iexact U0
    isplitl [U1]; · iexact U1
    isplitl [U2]; · iexact U2
    isplitl [U3]; · iexact U3
    isplitl [U4]; · iexact U4
    isplitl [C1]; · iexact C1
    iexact A1
  iintro ⟨HO, A1⟩
  dsimp -failIfUnchanged only
  rw [Prog.pure_eq_ret, wp_ret]; imodintro
  iapply Hc
  isplitl [HO]; · iexact HO
  isplitl [A0]; · iexact A0
  isplitl [A1 A3 A4 A5 A6 A7 A8 A9 A10 A11 A12 A13 A14 A15 A16 A17 A18 A19 A20 A21 A22]
  · isplitl [A1]; · iexact A1
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    iexact A22
  isplitl [Y0 Y1 Y2 Y3 Z0 Z1 Z2 Z3 X0 X1 X2 X3]
  · isplitl [Y0]; · iexists _; iexact Y0
    isplitl [Y1]; · iexists _; iexact Y1
    isplitl [Y2]; · iexists _; iexact Y2
    isplitl [Y3]; · iexists _; iexact Y3
    isplitl [Z0]; · iexists _; iexact Z0
    isplitl [Z1]; · iexists _; iexact Z1
    isplitl [Z2]; · iexists _; iexact Z2
    isplitl [Z3]; · iexists _; iexact Z3
    isplitl [X0]; · iexists _; iexact X0
    isplitl [X1]; · iexists _; iexact X1
    isplitl [X2]; · iexists _; iexact X2
    iexists _; iexact X3
  isplitl [Hp]; · iexact Hp
  isplitl [Hg]; · iexact Hg
  iexact Ho

end Cert.KernelIdeal.Proof

end
-- ==== Proof.Out.lean ====
module

public import proofs.«01_k».proof.Proof.Body

@[expose] public section

noncomputable section

namespace Cert.KernelIdeal.Proof

open Idealize.ShloMosaic
open Idealize.ShloMosaic.TcCoe
open Idealize.SL Idealize.SL.RA Idealize.SL.BI
open Cert.KernelIdeal.Gen Cert.KernelIdeal

variable {F : FTy → Type} [FloatOps F]

/-! ## The result buffer after its eight row blocks are stored

The blocks cover the buffer, so what it held before does not matter. -/

/-- Which of the eight row blocks device `e`'s block is. -/
def rowb (e : Dev nD) : ℕ := 4 * (e.val / 16) + e.val % 4
/-- The device in `c`'s plane whose block is number `b`. -/
def own (c : Dev nD) (b : ℕ) : Dev nD :=
  ⟨(16 * (b / 4) + 4 * ((c.val / 4) % 4) + b % 4) % 32, by simp only [nD]; omega⟩

theorem row_eq (e : Dev nD) : row e = 128 * rowb e := by unfold row rowb; omega

/-- The place of an element inside its row block. -/
def inBlk (i : S1024x1024.Idx) : S128x1024.Idx := fun a =>
  ⟨if a.val = 0 then (i 0).val % 128 else (i 1).val, by
    obtain ⟨a, ha⟩ := a
    match a, ha with
    | 0, _ => exact Nat.mod_lt _ (by decide)
    | 1, _ => exact (i 1).isLt⟩

theorem put_at (f : S1024x1024.Idx → Elt F .f32) (off : Fin 2 → ℕ) (h : ∀ a, off a + S128x1024.size a ≤ S1024x1024.size a)
    (w : S128x1024.Idx → Elt F .f32) (e : Dev nD) (he : off = ![row e, 0]) (i : S1024x1024.Idx) :
    put f off h w i = if (i 0).val / 128 = rowb e then w (inBlk i) else f i := by
  subst he
  have hr := row_eq e
  unfold put
  split
  · next hb =>
    have hi : i = (oB.access (Rect.unit (s := S1024x1024) ![row e, 0] S128x1024.size h)).emb (inBlk i) := by
      funext a
      apply Fin.ext
      obtain ⟨a, ha⟩ := a
      match a, ha with
      | 0, _ => show (i 0).val = row e + 1 * ((i 0).val % 128); omega
      | 1, _ => show (i 1).val = 0 + 1 * (i 1).val; omega
    conv_lhs => rw [hi]
    exact View.write_emb_of_mem _ _ (Finset.mem_univ _)
  · next hb =>
    refine View.write_of_not_mem _ _ _ fun hm => hb ?_
    obtain ⟨x, -, hx⟩ := Finset.mem_map.mp hm
    have h0 : row e + 1 * (x 0).val = (i 0).val := congrArg (fun j : S1024x1024.Idx => (j 0).val) hx
    have h1 : (x 0).val < 128 := (x 0).isLt
    omega

variable (P : Dev nD → S512x1024.Idx → Elt F .bf16) (G : Dev nD → S1x1024.Idx → Elt F .bf16)

/-- Row block `b` of device `c`'s result, -/
def blkOf (c : Dev nD) (b : ℕ) : S128x1024.Idx → Elt F .f32 :=
  if b = rowb c then rs P G c else k0_pay7 (zv P G (own c b))
/-- and the whole result. -/
def resOf (c : Dev nD) : S1024x1024.Idx → Elt F .f32 := fun i => blkOf P G c ((i 0).val / 128) (inBlk i)

theorem own_rowb : ∀ c : Dev nD, own c (rowb (xp c)) = xp c ∧ own c (rowb (zl c)) = zl c ∧ own c (rowb (zl (xp c))) = zl (xp c)
    ∧ own c (rowb (zl (zl c))) = zl (zl c) ∧ own c (rowb (zl (zl (xp c)))) = zl (zl (xp c))
    ∧ own c (rowb (zl (zl (zl c)))) = zl (zl (zl c)) ∧ own c (rowb (zl (zl (zl (xp c))))) = zl (zl (zl (xp c))) := by
  decide +kernel
theorem rowb_ne : ∀ c : Dev nD, rowb (xp c) ≠ rowb c ∧ rowb (zl c) ≠ rowb c ∧ rowb (zl (xp c)) ≠ rowb c
    ∧ rowb (zl (zl c)) ≠ rowb c ∧ rowb (zl (zl (xp c))) ≠ rowb c
    ∧ rowb (zl (zl (zl c))) ≠ rowb c ∧ rowb (zl (zl (zl (xp c)))) ≠ rowb c := by
  decide +kernel
theorem rowb_cover : ∀ c : Dev nD, ∀ b : Fin 8, b.val = rowb c ∨ b.val = rowb (xp c) ∨ b.val = rowb (zl c) ∨ b.val = rowb (zl (xp c))
    ∨ b.val = rowb (zl (zl c)) ∨ b.val = rowb (zl (zl (xp c))) ∨ b.val = rowb (zl (zl (zl c))) ∨ b.val = rowb (zl (zl (zl (xp c)))) := by
  decide +kernel

theorem blkOf_at (c e : Dev nD) (b : ℕ) (hb : b = rowb e) (hn : rowb e ≠ rowb c) (ho : own c (rowb e) = e) :
    blkOf P G c b = k0_pay7 (zv P G e) := by
  subst hb; unfold blkOf; rw [if_neg hn, ho]

theorem pay8_eq : (k0_pay8 : (S1x128x1024.Idx → Elt F .bf16) → _) = k0_pay7 := rfl
theorem pay9_eq : (k0_pay9 : (S1x128x1024.Idx → Elt F .bf16) → _) = k0_pay7 := rfl
theorem pay10_eq : (k0_pay10 : (S1x128x1024.Idx → Elt F .bf16) → _) = k0_pay7 := rfl
theorem pay11_eq : (k0_pay11 : (S1x128x1024.Idx → Elt F .bf16) → _) = k0_pay7 := rfl
theorem pay12_eq : (k0_pay12 : (S1x128x1024.Idx → Elt F .bf16) → _) = k0_pay7 := rfl
theorem pay13_eq : (k0_pay13 : (S1x128x1024.Idx → Elt F .bf16) → _) = k0_pay7 := rfl

theorem o8_eq (c : Dev nD) (f : S1024x1024.Idx → Elt F .f32) : o8 P G c f = resOf P G c := by
  funext i
  obtain ⟨n1, n2, n3, n4, n5, n6, n7⟩ := rowb_ne c
  obtain ⟨w1, w2, w3, w4, w5, w6, w7⟩ := own_rowb c
  have hcov := rowb_cover c ⟨(i 0).val / 128, by have : (i 0).val < 1024 := (i 0).isLt; omega⟩
  rw [o8, put_at _ _ _ _ _ (off4_eq3 c), o7, put_at _ _ _ _ _ (off5_eq3 c), o6, put_at _ _ _ _ _ (off4_eq2 c),
    o5, put_at _ _ _ _ _ (off5_eq2 c), o4, put_at _ _ _ _ _ (off4_eq1 c), o3, put_at _ _ _ _ _ (off5_eq1 c),
    o2, put_at _ _ _ _ _ (off4_eq0 c), o1, put_at _ _ _ _ _ (off3_eq c)]
  unfold resOf
  by_cases h7 : (i 0).val / 128 = rowb (zl (zl (zl (xp c))))
  · rw [if_pos h7, blkOf_at P G c _ _ h7 n7 w7, pay13_eq]
  by_cases h6 : (i 0).val / 128 = rowb (zl (zl (zl c)))
  · rw [if_neg h7, if_pos h6, blkOf_at P G c _ _ h6 n6 w6, pay12_eq]
  by_cases h5 : (i 0).val / 128 = rowb (zl (zl (xp c)))
  · rw [if_neg h7, if_neg h6, if_pos h5, blkOf_at P G c _ _ h5 n5 w5, pay11_eq]
  by_cases h4 : (i 0).val / 128 = rowb (zl (zl c))
  · rw [if_neg h7, if_neg h6, if_neg h5, if_pos h4, blkOf_at P G c _ _ h4 n4 w4, pay10_eq]
  by_cases h3 : (i 0).val / 128 = rowb (zl (xp c))
  · rw [if_neg h7, if_neg h6, if_neg h5, if_neg h4, if_pos h3, blkOf_at P G c _ _ h3 n3 w3, pay9_eq]
  by_cases h2 : (i 0).val / 128 = rowb (zl c)
  · rw [if_neg h7, if_neg h6, if_neg h5, if_neg h4, if_neg h3, if_pos h2, blkOf_at P G c _ _ h2 n2 w2, pay8_eq]
  by_cases h1 : (i 0).val / 128 = rowb (xp c)
  · rw [if_neg h7, if_neg h6, if_neg h5, if_neg h4, if_neg h3, if_neg h2, if_pos h1, blkOf_at P G c _ _ h1 n1 w1]
  have h0 : (i 0).val / 128 = rowb c := by
    rcases hcov with h | h | h | h | h | h | h | h
    · exact h
    · exact absurd h h1
    · exact absurd h h2
    · exact absurd h h3
    · exact absurd h h4
    · exact absurd h h5
    · exact absurd h h6
    · exact absurd h h7
  rw [if_neg h7, if_neg h6, if_neg h5, if_neg h4, if_neg h3, if_neg h2, if_neg h1, if_pos h0]
  unfold blkOf; rw [if_pos h0]

end Cert.KernelIdeal.Proof

end
-- ==== Proof.Scratches.lean ====
module

public import proofs.«01_k».proof.Proof.Out

@[expose] public section

noncomputable section

namespace Cert.KernelIdeal.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen Cert.KernelIdeal

variable {F : FTy → Type} [FloatOps F]

local notation "𝕄" => MT nD τ sig Unit (Elt F) ℕ UU ℕ

/-! ## A scratch buffer whole, and as its four slots -/

theorem dis2 : Disjoint (slotS 2) (slotS 3) := slotS_disjoint (by decide)
theorem dis1 : Disjoint (slotS 1) (slotS 2 ∪ slotS 3) :=
  Finset.disjoint_union_right.mpr ⟨slotS_disjoint (by decide), slotS_disjoint (by decide)⟩
theorem dis0 : Disjoint (slotS 0) (slotS 1 ∪ (slotS 2 ∪ slotS 3)) :=
  Finset.disjoint_union_right.mpr ⟨slotS_disjoint (by decide),
    Finset.disjoint_union_right.mpr ⟨slotS_disjoint (by decide), slotS_disjoint (by decide)⟩⟩

theorem y_cut (c : Dev nD) : (iprop(∃ f : Buf (Elt F) ((c : Thread nD τ).loc cc0_scratch0), ((c : Thread nD τ).loc cc0_scratch0) ↦{fullShare} f) : sProp 𝕄)
    ⊢ iprop(yAny c 0 k0_lt ∗ yAny c 1 k1_lt ∗ yAny c 2 k2_lt ∗ yAny c 3 k3_lt) := by
  unfold yAny
  rw [y_set, y_set, y_set, y_set]
  iintro ⟨%f, H⟩
  have e : (((c : Thread nD τ).loc cc0_scratch0) ↦{fullShare} f : sProp 𝕄)
      = (((c : Thread nD τ).loc cc0_scratch0) ↦[slotS 0 ∪ (slotS 1 ∪ (slotS 2 ∪ slotS 3))]{fullShare} f) := by rw [← slotS_univ]
  ihave H1 := (Entails.of_eq e) $$ H
  ihave H2 := (pointsTo_union dis0).1 $$ H1
  icases H2 with ⟨H0, H2⟩
  ihave H3 := (pointsTo_union dis1).1 $$ H2
  icases H3 with ⟨H1, H3⟩
  ihave H4 := (pointsTo_union dis2).1 $$ H3
  icases H4 with ⟨H2, H3⟩
  isplitl [H0]; · iexists f; iexact H0
  isplitl [H1]; · iexists f; iexact H1
  isplitl [H2]; · iexists f; iexact H2
  iexists f; iexact H3

theorem y_paste (c : Dev nD) : (iprop(yAny c 0 k0_lt ∗ yAny c 1 k1_lt ∗ yAny c 2 k2_lt ∗ yAny c 3 k3_lt) : sProp 𝕄)
    ⊢ iprop(∃ f : Buf (Elt F) ((c : Thread nD τ).loc cc0_scratch0), ((c : Thread nD τ).loc cc0_scratch0) ↦{fullShare} f) := by
  unfold yAny
  rw [y_set, y_set, y_set, y_set]
  iintro ⟨⟨%f0, H0⟩, ⟨%f1, H1⟩, ⟨%f2, H2⟩, ⟨%f3, H3⟩⟩
  ihave H4 := (pointsTo_join (ℓ := (c : Thread nD τ).loc cc0_scratch0) dis2) $$ [H2 H3]
  · isplitl [H2]; · iexact H2
    iexact H3
  ihave H5 := (pointsTo_join (ℓ := (c : Thread nD τ).loc cc0_scratch0) dis1) $$ [H1 H4]
  · isplitl [H1]; · iexact H1
    iexact H4
  ihave H6 := (pointsTo_join (ℓ := (c : Thread nD τ).loc cc0_scratch0) dis0) $$ [H0 H5]
  · isplitl [H0]; · iexact H0
    iexact H5
  rw [← slotS_univ]
  iexists _; iexact H6

theorem z_cut (c : Dev nD) : (iprop(∃ f : Buf (Elt F) ((c : Thread nD τ).loc cc0_scratch3), ((c : Thread nD τ).loc cc0_scratch3) ↦{fullShare} f) : sProp 𝕄)
    ⊢ iprop(zAny c 0 k0_lt ∗ zAny c 1 k1_lt ∗ zAny c 2 k2_lt ∗ zAny c 3 k3_lt) := by
  unfold zAny
  rw [z_set, z_set, z_set, z_set]
  iintro ⟨%f, H⟩
  have e : (((c : Thread nD τ).loc cc0_scratch3) ↦{fullShare} f : sProp 𝕄)
      = (((c : Thread nD τ).loc cc0_scratch3) ↦[slotS 0 ∪ (slotS 1 ∪ (slotS 2 ∪ slotS 3))]{fullShare} f) := by rw [← slotS_univ]
  ihave H1 := (Entails.of_eq e) $$ H
  ihave H2 := (pointsTo_union dis0).1 $$ H1
  icases H2 with ⟨H0, H2⟩
  ihave H3 := (pointsTo_union dis1).1 $$ H2
  icases H3 with ⟨H1, H3⟩
  ihave H4 := (pointsTo_union dis2).1 $$ H3
  icases H4 with ⟨H2, H3⟩
  isplitl [H0]; · iexists f; iexact H0
  isplitl [H1]; · iexists f; iexact H1
  isplitl [H2]; · iexists f; iexact H2
  iexists f; iexact H3

theorem z_paste (c : Dev nD) : (iprop(zAny c 0 k0_lt ∗ zAny c 1 k1_lt ∗ zAny c 2 k2_lt ∗ zAny c 3 k3_lt) : sProp 𝕄)
    ⊢ iprop(∃ f : Buf (Elt F) ((c : Thread nD τ).loc cc0_scratch3), ((c : Thread nD τ).loc cc0_scratch3) ↦{fullShare} f) := by
  unfold zAny
  rw [z_set, z_set, z_set, z_set]
  iintro ⟨⟨%f0, H0⟩, ⟨%f1, H1⟩, ⟨%f2, H2⟩, ⟨%f3, H3⟩⟩
  ihave H4 := (pointsTo_join (ℓ := (c : Thread nD τ).loc cc0_scratch3) dis2) $$ [H2 H3]
  · isplitl [H2]; · iexact H2
    iexact H3
  ihave H5 := (pointsTo_join (ℓ := (c : Thread nD τ).loc cc0_scratch3) dis1) $$ [H1 H4]
  · isplitl [H1]; · iexact H1
    iexact H4
  ihave H6 := (pointsTo_join (ℓ := (c : Thread nD τ).loc cc0_scratch3) dis0) $$ [H0 H5]
  · isplitl [H0]; · iexact H0
    iexact H5
  rw [← slotS_univ]
  iexists _; iexact H6

theorem x_cut (c : Dev nD) : (iprop(∃ f : Buf (Elt F) ((c : Thread nD τ).loc cc0_scratch6), ((c : Thread nD τ).loc cc0_scratch6) ↦{fullShare} f) : sProp 𝕄)
    ⊢ iprop(xAny c 0 k0_lt ∗ xAny c 1 k1_lt ∗ xAny c 2 k2_lt ∗ xAny c 3 k3_lt) := by
  unfold xAny
  rw [x_set, x_set, x_set, x_set]
  iintro ⟨%f, H⟩
  have e : (((c : Thread nD τ).loc cc0_scratch6) ↦{fullShare} f : sProp 𝕄)
      = (((c : Thread nD τ).loc cc0_scratch6) ↦[slotS 0 ∪ (slotS 1 ∪ (slotS 2 ∪ slotS 3))]{fullShare} f) := by rw [← slotS_univ]
  ihave H1 := (Entails.of_eq e) $$ H
  ihave H2 := (pointsTo_union dis0).1 $$ H1
  icases H2 with ⟨H0, H2⟩
  ihave H3 := (pointsTo_union dis1).1 $$ H2
  icases H3 with ⟨H1, H3⟩
  ihave H4 := (pointsTo_union dis2).1 $$ H3
  icases H4 with ⟨H2, H3⟩
  isplitl [H0]; · iexists f; iexact H0
  isplitl [H1]; · iexists f; iexact H1
  isplitl [H2]; · iexists f; iexact H2
  iexists f; iexact H3

theorem x_paste (c : Dev nD) : (iprop(xAny c 0 k0_lt ∗ xAny c 1 k1_lt ∗ xAny c 2 k2_lt ∗ xAny c 3 k3_lt) : sProp 𝕄)
    ⊢ iprop(∃ f : Buf (Elt F) ((c : Thread nD τ).loc cc0_scratch6), ((c : Thread nD τ).loc cc0_scratch6) ↦{fullShare} f) := by
  unfold xAny
  rw [x_set, x_set, x_set, x_set]
  iintro ⟨⟨%f0, H0⟩, ⟨%f1, H1⟩, ⟨%f2, H2⟩, ⟨%f3, H3⟩⟩
  ihave H4 := (pointsTo_join (ℓ := (c : Thread nD τ).loc cc0_scratch6) dis2) $$ [H2 H3]
  · isplitl [H2]; · iexact H2
    iexact H3
  ihave H5 := (pointsTo_join (ℓ := (c : Thread nD τ).loc cc0_scratch6) dis1) $$ [H1 H4]
  · isplitl [H1]; · iexact H1
    iexact H4
  ihave H6 := (pointsTo_join (ℓ := (c : Thread nD τ).loc cc0_scratch6) dis0) $$ [H0 H5]
  · isplitl [H0]; · iexact H0
    iexact H5
  rw [← slotS_univ]
  iexists _; iexact H6

/-- The kernel's scratch is its twelve slots. -/
theorem bufAll_intro (c : Dev nD) : (Pipeline.scopedRest (Ix := Unit) (Name := ℕ) (U := UU) (Lvl := ℕ) (Val := Elt F) spec0 c : sProp 𝕄) ⊢ bufAll c := by
  rw [scopedRest0_eq]
  unfold bufAll
  iintro ⟨Hy, Hz, Hx⟩
  ihave Hy := (y_cut c) $$ Hy
  ihave Hz := (z_cut c) $$ Hz
  ihave Hx := (x_cut c) $$ Hx
  icases Hy with ⟨Y0, Y1, Y2, Y3⟩
  icases Hz with ⟨Z0, Z1, Z2, Z3⟩
  icases Hx with ⟨X0, X1, X2, X3⟩
  isplitl [Y0]; · iexact Y0
  isplitl [Y1]; · iexact Y1
  isplitl [Y2]; · iexact Y2
  isplitl [Y3]; · iexact Y3
  isplitl [Z0]; · iexact Z0
  isplitl [Z1]; · iexact Z1
  isplitl [Z2]; · iexact Z2
  isplitl [Z3]; · iexact Z3
  isplitl [X0]; · iexact X0
  isplitl [X1]; · iexact X1
  isplitl [X2]; · iexact X2
  iexact X3
theorem bufAll_elim (c : Dev nD) : bufAll c ⊢ (Pipeline.scopedRest (Ix := Unit) (Name := ℕ) (U := UU) (Lvl := ℕ) (Val := Elt F) spec0 c : sProp 𝕄) := by
  rw [scopedRest0_eq]
  unfold bufAll
  iintro ⟨Y0, Y1, Y2, Y3, Z0, Z1, Z2, Z3, X0, X1, X2, X3⟩
  ihave Hy := (y_paste c) $$ [Y0 Y1 Y2 Y3]
  · isplitl [Y0]; · iexact Y0
    isplitl [Y1]; · iexact Y1
    isplitl [Y2]; · iexact Y2
    iexact Y3
  ihave Hz := (z_paste c) $$ [Z0 Z1 Z2 Z3]
  · isplitl [Z0]; · iexact Z0
    isplitl [Z1]; · iexact Z1
    isplitl [Z2]; · iexact Z2
    iexact Z3
  ihave Hx := (x_paste c) $$ [X0 X1 X2 X3]
  · isplitl [X0]; · iexact X0
    isplitl [X1]; · iexact X1
    isplitl [X2]; · iexact X2
    iexact X3
  isplitl [Hy]; · iexact Hy
  isplitl [Hz]; · iexact Hz
  iexact Hx

/-! ## The kernel's own cells, opened and closed together -/

theorem atAll_eq (r : ℕ) (c : Dev nD) :
    (bigSep Finset.univ fun k : Fin 21 => (atPos ER ((c : Thread nD τ), osem k) r ∅ 0 : sProp 𝕄)) = atAll r c :=
  bigSep_univ_eq_bigSepL [0, 1, 2, 3, 4, 5, 6, 7, 8, 9, 10, 11, 12, 13, 14, 15, 16, 17, 18, 19, 20] (by decide) (by decide) _

variable {P : Dev nD → S512x1024.Idx → Elt F .bf16} {G : Dev nD → S1x1024.Idx → Elt F .bf16} {K : GSem nD τ sig → ℕ}

theorem open_all (c : Dev nD) :
    iprop(known P G K ∗ (bigSep Finset.univ fun k : Fin 21 => openTok ER ((c : Thread nD τ), osem k))
        ∗ Pipeline.ownSems0 (Ix := Unit) (Name := ℕ) (U := UU) (Lvl := ℕ) (Val := Elt F) (τ := τ) osem c)
      ⊢ (|={Set.univ}=> iprop(atAll 0 c ∗ ownR c) : sProp 𝕄) := by
  rw [← atAll_eq]
  unfold ownR Pipeline.ownSems0
  iintro ⟨#Hk, Ho, Hs⟩
  imod (cells_open ER (Rd P G) Finset.univ (fun k : Fin 21 => (((c : Dev nD) : Thread nD τ), osem k)) (fun k => K ((c : Thread nD τ), osem k))
    (fun k _ => Set.mem_univ _)) $$ [Ho Hs] with H
  · isplitl [Ho]
    · iapply (bigSep_with_persistent (R := known P G K) (Φ := fun k : Fin 21 => openTok ER ((c : Thread nD τ), osem k)) fun k _ => (by
      iintro ⟨#Hk, Ho⟩
      isplitr; · iapply (known_inv (Finset.mem_union_right _ (mem_own c k))); iexact Hk
      iexact Ho))
      isplitr; · iexact Hk
      iexact Ho
    iexact Hs
  imodintro
  iapply (Entails.of_eq (bigSep_sep' _ _ _))
  iexact H

theorem close_all (c : Dev nD) :
    iprop(known P G K ∗ atAll 1 c)
      ⊢ (|={Set.univ}=> Pipeline.ownSems0 (Ix := Unit) (Name := ℕ) (U := UU) (Lvl := ℕ) (Val := Elt F) (τ := τ) osem c : sProp 𝕄) := by
  rw [← atAll_eq]
  unfold Pipeline.ownSems0
  iintro ⟨#Hk, Ha⟩
  iapply (cells_close ER (Rd P G) Finset.univ (fun k : Fin 21 => (((c : Dev nD) : Thread nD τ), osem k)) (fun k => K ((c : Thread nD τ), osem k))
    (fun k _ => Set.mem_univ _) (fun k _ h => h) (fun _ => 1) (fun k _ => duties_later P G _))
  iapply (bigSep_with_persistent (R := known P G K) (Φ := fun k : Fin 21 => atPos ER ((c : Thread nD τ), osem k) 1 ∅ 0) fun k _ => (by
    iintro ⟨#Hk, Ho⟩
    isplitr; · iapply (known_inv (Finset.mem_union_right _ (mem_own c k))); iexact Hk
    iexact Ho))
  isplitr; · iexact Hk
  iexact Ha

theorem close_bar (c : Dev nD) : iprop(known P G K ∗ atPos ER (gR c 0) 1 ∅ 0) ⊢ (|={Set.univ}=> semVal (gR c 0) 0 : sProp 𝕄) := by
  iintro ⟨#Hk, Ha⟩
  iapply (cell_close ER (Rd P G) (Set.mem_univ (K (gR c 0))) (fun h => h) (R := 1) (duties_later P G (gR c 0)))
  isplitr; · iapply (known_R0 c); iexact Hk
  iexact Ha

end Cert.KernelIdeal.Proof

end
-- ==== Proof.Region.lean ====
module

public import Idealize.ShloMosaic.Lib.Pipeline.RegionTalk
public import proofs.«01_k».proof.Proof.Gen.KernelIdeal.Regions
public import proofs.«01_k».proof.Proof.Scratches

@[expose] public section

noncomputable section

namespace Cert.KernelIdeal.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen Cert.KernelIdeal

variable {F : FTy → Type} [FloatOps F]

local notation "𝕄" => MT nD τ sig Unit (Elt F) ℕ UU ℕ

/-! ## The kernel's region: one point, three whole windows -/

-- the unscoped buffers as each device enters the region
variable (V : Dev nD → Valuation τ sig (Elt F))

/-- The operand and the scale each device enters with. -/
abbrev PV (c : Dev nD) : S512x1024.Idx → Elt F .bf16 := V c main_v17
abbrev GV (c : Dev nD) : S1x1024.Idx → Elt F .bf16 := V c main_v18

/-- What the launch keeps for the region, -/
def kept (c : Dev nD) : sProp 𝕄 :=
  iprop((∃ K, known (PV V) (GV V) K ∗ atPos ER (gR c 0) 0 ∅ 0 ∗ bigSep Finset.univ fun k : Fin 21 => openTok ER ((c : Thread nD τ), osem k))
    ∗ crAll c ∗ tkAll c)
/-- what it is once the kernel's own cells are open, -/
def opened (c : Dev nD) : sProp 𝕄 :=
  iprop((∃ K, known (PV V) (GV V) K ∗ ownR c ∗ atPos ER (gR c 0) 0 ∅ 0 ∗ atAll 0 c) ∗ crAll c ∗ tkAll c)
/-- and what the body runs from and leaves. -/
def phi0 (c : Dev nD) : sProp 𝕄 := iprop(opened V c ∗ bufAll c ∗ ∃ r, prngReg c r)
def phi1 (c : Dev nD) : sProp 𝕄 :=
  iprop(semVal (gR c 0) 0 ∗ Pipeline.ownSems0 (Ix := Unit) (Name := ℕ) (U := UU) (Lvl := ℕ) (Val := Elt F) (τ := τ) osem c ∗ bufAll c ∗ ∃ r, prngReg c r)

def dat (c : Dev nD) : Dat τ (Elt F) Unit ℕ UU ℕ cfg0 c where
  A w := V c (Proc.devRef .tc (Pipeline.arrRef spec0 w))
  after w _ := match w with
    | ⟨0, _⟩ => PV V c
    | ⟨1, _⟩ => GV V c
    | ⟨2, _⟩ => resOf (PV V) (GV V) c
  Φ t := if t.val = 0 then phi0 V c else phi1 c
  q _ := fullShare
  owed t := if t.val = 0 then owe (q0 c) else 0

def pdats : (p : Fin 1) → (c : Dev nD) → Dat τ (Elt F) Unit ℕ UU ℕ (Pipeline.pin (pcfgs (F := F)) adm p) c
  | 0 => dat V

theorem owed_zero (c : Dev nD) : (dat V c).owed 0 = owe (q0 c) := by
  show (if (0 : Fin (cfg0.N + 1)).val = 0 then owe (q0 c) else (0 : CellTallies nD τ sig Unit)) = _; exact if_pos rfl
theorem owed_first (c : Dev nD) : (dat V c).owed t0_0.castSucc = owe (q0 c) := by
  show (if (t0_0.castSucc : Fin (cfg0.N + 1)).val = 0 then owe (q0 c) else (0 : CellTallies nD τ sig Unit)) = _; exact if_pos rfl
theorem owed_end (c : Dev nD) : (dat V c).owed t0_0.succ = 0 := by
  show (if (t0_0.succ : Fin (cfg0.N + 1)).val = 0 then owe (q0 c) else (0 : CellTallies nD τ sig Unit)) = _; exact if_neg (by decide)
theorem owed_last (c : Dev nD) : (dat V c).owed (Fin.last _) = 0 := by
  show (if (Fin.last cfg0.N).val = 0 then owe (q0 c) else (0 : CellTallies nD τ sig Unit)) = _; exact if_neg (by rw [Fin.val_last, show cfg0.N = 1 from N_0]; decide)
theorem phi_zero (c : Dev nD) : (dat V c).Φ 0 = phi0 V c := by
  show (if (0 : Fin (cfg0.N + 1)).val = 0 then phi0 V c else phi1 c) = _; exact if_pos rfl
theorem phi_first (c : Dev nD) : (dat V c).Φ t0_0.castSucc = phi0 V c := by
  show (if (t0_0.castSucc : Fin (cfg0.N + 1)).val = 0 then phi0 V c else phi1 c) = _; exact if_pos rfl
theorem phi_end (c : Dev nD) : (dat V c).Φ t0_0.succ = phi1 c := by
  show (if (t0_0.succ : Fin (cfg0.N + 1)).val = 0 then phi0 V c else phi1 c) = _; exact if_neg (by decide)
theorem phi_last (c : Dev nD) : (dat V c).Φ (Fin.last _) = phi1 c := by
  show (if (Fin.last cfg0.N).val = 0 then phi0 V c else phi1 c) = _; exact if_neg (by rw [Fin.val_last, show cfg0.N = 1 from N_0]; decide)

theorem owing_intro (c : Dev nD) (t : Fin (cfg0.N + 1)) (l : List (Dev nD × SemLoc sig × ℕ)) (h : (dat V c).owed t = owe l) :
    (owing c l : sProp 𝕄) ⊢ (dat V c).owesAt () t := by
  unfold owing Dat.owesAt Pipeline.owesWithin Dat.bound
  rw [h]
  iintro ⟨%W, HO⟩; iexists W
  isplitr; · ipureintro; exact fun _ _ => Or.inl trivial
  iexact HO
theorem owing_elim (c : Dev nD) (t : Fin (cfg0.N + 1)) (l : List (Dev nD × SemLoc sig × ℕ)) (h : (dat V c).owed t = owe l) :
    ((dat V c).owesAt () t : sProp 𝕄) ⊢ owing c l := by
  unfold owing Dat.owesAt Pipeline.owesWithin
  rw [h]
  iintro ⟨%W, -, HO⟩; iexists W; iexact HO

/-! ### The windows hold whole arrays -/

theorem found_0 (c : Dev nD) (d) : (dat V c).before (0 : Fin 3) t0_0 d = PV V c := by
  unfold Dat.before
  rw [if_pos (fetch0_0 t0_0)]
  show (dat V c).blockOf (0 : Fin 3) t0_0 = _
  funext i
  refine congrArg (V c main_v17) (funext fun a => Fin.ext ?_)
  show 0 * _ + 1 * (i a).val = (i a).val
  omega
theorem found_1 (c : Dev nD) (d) : (dat V c).before (1 : Fin 3) t0_0 d = GV V c := by
  unfold Dat.before
  rw [if_pos (fetch0_1 t0_0)]
  show (dat V c).blockOf (1 : Fin 3) t0_0 = _
  funext i
  refine congrArg (V c main_v18) (funext fun a => Fin.ext ?_)
  show 0 * _ + 1 * (i a).val = (i a).val
  omega

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def entry (c : Dev nD) : sProp 𝕄 :=
  iprop((dat V c).Φ t0_0.castSucc ∗ (dat V c).owesAt () t0_0.castSucc
    ∗ (∃ d, stg c cc0_stg0_0 ((dat V c).before (0 : Fin 3) t0_0 d))
    ∗ (∃ d, stg c cc0_stg1_0 ((dat V c).before (1 : Fin 3) t0_0 d))
    ∗ (∃ d, stg c cc0_stg2_0 ((dat V c).before (2 : Fin 3) t0_0 d)))
def exit (c : Dev nD) : sProp 𝕄 :=
  iprop((dat V c).Φ t0_0.succ ∗ (dat V c).owesAt () t0_0.succ
    ∗ stg c cc0_stg0_0 (PV V c) ∗ stg c cc0_stg1_0 (GV V c) ∗ stg c cc0_stg2_0 (resOf (PV V) (GV V) c))

theorem body_sound (c : Dev nD) :
    entry V c ⊢ wp frame (wpE (defs₀ (F := F)) 𝒱₀ (c : Thread nD τ) none) Set.univ
      (cc0_body pB (Memref.isWhole_whole _) gB (Memref.isWhole_whole _) oB (Memref.isWhole_whole _) yB (Memref.isWhole_whole _) cc0_scratch1 cc0_scratch2 zB (Memref.isWhole_whole _) cc0_scratch4 cc0_scratch5 xB (Memref.isWhole_whole _) cc0_scratch7 cc0_scratch8 cc0_scoped0)
      (fun _ => exit V c) := by
  unfold entry
  rw [phi_first]
  unfold phi0 opened
  iintro ⟨⟨⟨⟨%K, #Hk, #HR, Hb, Ha⟩, Hc, Ht⟩, Hbuf, Hreg⟩, HO, ⟨%d0, %g0, %h0, Hp⟩, ⟨%d1, %g1, %h1, Hg⟩, ⟨%d2, %g2, -, Ho⟩⟩
  have e0 : g0 = PV V c := h0.trans (found_0 V c d0)
  have e1 : g1 = GV V c := h1.trans (found_1 V c d1)
  subst e0 e1
  ihave HO := (owing_elim V c t0_0.castSucc (q0 c) (owed_first V c)) $$ HO
  iapply (wp_fupd _ _ _ _ _)
  iapply (body_run (P := PV V) (G := GV V) (K := K) c g2) $$ [HO Hp Hg Ho Hb Ha Hc Ht Hbuf]
  · isplitr; · iexact Hk
    isplitr; · iexact HR
    isplitl [HO]; · iexact HO
    isplitl [Hb]; · iexact Hb
    isplitl [Ha]; · iexact Ha
    isplitl [Hc]; · iexact Hc
    isplitl [Ht]; · iexact Ht
    isplitl [Hbuf]; · iexact Hbuf
    isplitl [Hp]; · iexact Hp
    isplitl [Hg]; · iexact Hg
    iexact Ho
  iintro ⟨HO, Hb, Ha, Hbuf, Hp, Hg, Ho⟩
  imod (close_bar (P := PV V) (G := GV V) (K := K) c) $$ [Hb] with Hb
  · isplitr; · iexact Hk
    iexact Hb
  imod (close_all (P := PV V) (G := GV V) (K := K) c) $$ [Ha] with Ha
  · isplitr; · iexact Hk
    iexact Ha
  imodintro
  unfold exit
  rw [phi_end, o8_eq]
  unfold phi1
  isplitl [Hb Ha Hbuf Hreg]
  · isplitl [Hb]; · iexact Hb
    isplitl [Ha]; · iexact Ha
    isplitl [Hbuf]; · iexact Hbuf
    iexact Hreg
  isplitl [HO]; · iapply (owing_intro V c t0_0.succ [] (owed_end V c)); iexact HO
  isplitl [Hp]
  · iexists _; isplitr; · (ipureintro; rfl)
    iexact Hp
  isplitl [Hg]
  · iexists _; isplitr; · (ipureintro; rfl)
    iexact Hg
  iexists _; isplitr; · (ipureintro; rfl)
  iexact Ho

theorem body_obligation (c : Dev nD) : Pipeline.BodyObligation (dat V c) (defs₀ (F := F)) 𝒱₀ () Set.univ := fun t => by
  rw [fin_N0 t]
  rw [bigSep_W0, bigSep_W0]
  simp only [owns_whole]
  exact body_sound V c

end Cert.KernelIdeal.Proof

end
-- ==== Proof.Segment.lean ====
module

public import proofs.«01_k».proof.Proof.Region

@[expose] public section

noncomputable section

namespace Cert.KernelIdeal.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen Cert.KernelIdeal

variable {F : FTy → Type} [FloatOps F]

local notation "𝕄" => MT nD τ sig Unit (Elt F) ℕ UU ℕ

/-! ## The region as one of @main's segments -/

variable (V : Dev nD → Valuation τ sig (Elt F))

/-- The unscoped buffers as each device leaves the region. -/
abbrev Vout (c : Dev nD) : Valuation τ sig (Elt F) := Function.update (V c) main_v19 (resOf (PV V) (GV V) c)
/-- The unscoped buffers no window is over. -/
abbrev others : Finset (DevRef τ sig) := Pipeline.ucRefs τ sig \ Pipeline.arrRefs (τ := τ) spec0

theorem arr_at_in0 (c : Dev nD) (n : ℕ) : (dat V c).arrAt (0 : Fin 3) n = V c main_v17 := (dat V c).arrAt_in (0 : Fin 3) rfl n
theorem arr_at_in1 (c : Dev nD) (n : ℕ) : (dat V c).arrAt (1 : Fin 3) n = V c main_v18 := (dat V c).arrAt_in (1 : Fin 3) rfl n
theorem arr_at_out (c : Dev nD) : (dat V c).arrAt (2 : Fin 3) 1 = resOf (PV V) (GV V) c := by
  show (if h : 0 < cfg0.N then (if (cfg0.win 2).flush ⟨0, h⟩ then ((cfg0.win 2).blk ⟨0, h⟩).view.write (Elt F) ((dat V c).arrAt (2 : Fin 3) 0) ((dat V c).flushed (2 : Fin 3) ⟨0, h⟩) Finset.univ
    else (dat V c).arrAt (2 : Fin 3) 0) else (dat V c).arrAt (2 : Fin 3) 0) = _
  rw [dif_pos (by decide), if_pos (flush0_2 _)]
  funext i
  have hi : i = ((cfg0.win 2).blk t0_0).view.emb i := funext fun a => Fin.ext (by
    show (i a).val = 0 * _ + 1 * (i a).val
    omega)
  conv_lhs => rw [hi]
  exact View.write_emb_of_mem _ _ (Finset.mem_univ _)

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_full (c : Dev nD) (w : Fin 3) : (dat V c).share w = fullShare := by unfold Dat.share; split <;> rfl

theorem owed_high (c : Dev nD) (t : Fin (cfg0.N + 1)) (g : GSem nD τ sig) (i : Unit) (h : 0 < (dat V c).owed t g i) :
    i ∈ L g ∧ (0 : ℕ) < lv g i := by
  have e : (dat V c).owed t = if t.val = 0 then owe (q0 c) else 0 := rfl
  rw [e] at h
  split at h
  · obtain ⟨p, hp, rfl⟩ := owe_pos h
    refine ⟨by rw [L_tc]; exact Finset.mem_singleton_self _, ?_⟩
    have ha : ((q0 c).all fun p => Nat.blt 0 (lvS p.2.1)) = true := rfl
    exact Nat.le_of_ble_eq_true (List.all_eq_true.mp ha p hp)
  · exact absurd h (Nat.lt_irrefl 0)

theorem open_region (c : Dev nD) :
    iprop(kept V c ∗ Pipeline.ownSems0 (Ix := Unit) (Name := ℕ) (U := UU) (Lvl := ℕ) (Val := Elt F) (τ := τ) osem c ∗ levAts L lv)
      ⊢ (|={Set.univ}=> opened V c : sProp 𝕄) := by
  unfold kept opened
  iintro ⟨⟨⟨%K, #Hk, Hb, Ho⟩, Hc, Ht⟩, Hs, -⟩
  imod (open_all (P := PV V) (G := GV V) (K := K) c) $$ [Ho Hs] with ⟨Ha, HR⟩
  · isplitr; · iexact Hk
    isplitl [Ho]; · iexact Ho
    iexact Hs
  imodintro
  isplitl [Hb Ha HR]
  · iexists K
    isplitr; · iexact Hk
    isplitl [HR]; · iexact HR
    isplitl [Hb]; · iexact Hb
    iexact Ha
  isplitl [Hc]; · iexact Hc
  iexact Ht

theorem held_none (c : Dev nD) (W : Valuation τ sig (Elt F)) : (StableHlo.held (c.tc : Thread nD τ) ∅ W : sProp 𝕄) = BI.emp := by
  unfold StableHlo.held; exact bigSep_empty

theorem region_in (c : Dev nD) :
    iprop(Pipeline.scopedRest (Pipeline.pin (pcfgs (F := F)) adm 0).spec c ∗ (∃ r, prngReg c r) ∗ StableHlo.held (c.tc : Thread nD τ) ∅ (V c) ∗ opened V c)
      ⊢ (pdats V 0 c).Φ 0 := by
  rw [show (pdats V 0 c).Φ 0 = phi0 V c from phi_zero V c]
  unfold phi0
  iintro ⟨Hs, Hr, -, Ho⟩
  isplitl [Ho]; · iexact Ho
  isplitl [Hs]; · iapply (bufAll_intro c); iexact Hs
  iexact Hr

theorem region_out (c : Dev nD) :
    (pdats V 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) ∅ (Vout V c)
        ∗ Pipeline.ownSems0 (Ix := Unit) (Name := ℕ) (U := UU) (Lvl := ℕ) (Val := Elt F) (τ := τ) osem c ∗ semVal (gR c 0) 0) := by
  rw [show (pdats V 0 c).Φ (Fin.last _) = phi1 c from phi_last V c, held_none]
  unfold phi1
  iintro ⟨Hb, Ho, Hs, Hr⟩
  isplitl [Hs]; · iapply (bufAll_elim c); iexact Hs
  isplitl [Hr]; · iexact Hr
  isplitr; · iempintro
  isplitl [Ho]; · iexact Ho
  iexact Hb

theorem vout_other (c : Dev nD) (b : DevRef τ sig) (h : b ∈ (others : Finset (DevRef τ sig))) : Vout V c b = V c b :=
  Function.update_of_ne (by
    rintro rfl
    exact (Finset.mem_sdiff.mp h).2 (Finset.mem_map.mpr ⟨main_v19, Finset.mem_image.mpr ⟨2, Finset.mem_univ _, rfl⟩, rfl⟩)) _ _

theorem win_in (c : Dev nD) (w : Fin 3) : (dat V c).arrAt w 0 = V c (Proc.devRef .tc (Pipeline.arrRef spec0 w)) := rfl
theorem win_out (c : Dev nD) (w : Fin 3) : (dat V c).arrAt w 1 = Vout V c (Proc.devRef .tc (Pipeline.arrRef spec0 w)) := by
  fin_cases w
  · exact (arr_at_in0 V c 1).trans (Function.update_of_ne (StableHlo.devRef_ne_of_ne (by decide)) _ _).symm
  · exact (arr_at_in1 V c 1).trans (Function.update_of_ne (StableHlo.devRef_ne_of_ne (by decide)) _ _).symm
  · show (dat V c).arrAt (2 : Fin 3) 1 = Vout V c (Proc.devRef .tc main_v19)
    exact (arr_at_out V c).trans (Function.update_self (Proc.devRef .tc main_v19 : DevRef τ sig) (resOf (PV V) (GV V) c) (V c)).symm

set_option backward.isDefEq.respectTransparency.types false in
def reg : Pipeline.RegionSeg (pcfgs (F := F)) adm (pdats V) () defs₀ 𝒱₀ L lv 0 :=
  Pipeline.RegionSeg.ofTalk (pcfgs (F := F)) adm (pdats V) () defs₀ 𝒱₀ L lv 0 osem (by decide : Pipeline.OwnSemFacts spec0 osem)
    ∅ others (Finset.empty_subset _) kit0 rfl (fun c => (body_obligation V c).loose)
    (fun _ => 0) (fun c => owe (q0 c)) (fun c => (owed_zero V c).trans (zero_add _).symm) (owed_last V) (fun _ => rfl) (share_full V)
    V (Vout V) (fun c b hb => vout_other V c b (Finset.mem_sdiff.mp hb).1)
    (kept V) (fun c => semVal (gR c 0) 0) (opened V) (fun c => semVal (gR c 0) 0) (open_region V) (region_in V) (region_out V)
    (fun c => by iintro H; imodintro; iexact H)
    (fun _ => 0)
    ⟨fun c w s => by rw [L_tc]; exact Finset.mem_singleton_self _,
      fun c w s => by fin_cases w <;> fin_cases s <;> exact Nat.le_refl 0,
      fun c t g i h => owed_high V c t g i h⟩
    (fun _ => iprop(emp)) (win_in V) (win_out V)

theorem arr_sub : Pipeline.arrRefs (τ := τ) spec0 ⊆ Pipeline.ucRefs τ sig :=
  Pipeline.arrRefs_sub_ucRefs spec0 (by decide)

theorem reg_pre (c : Dev nD) :
    iprop(StableHlo.held (c : Thread nD τ) (Pipeline.ucRefs τ sig) (V c) ∗ (∃ r, prngReg c r) ∗ kept V c ∗ ∃ W, owes (c : Thread nD τ) (owe (q0 c)) W)
      ⊢ (reg V).pre c := by
  show _ ⊢ iprop(StableHlo.held (c.tc : Thread nD τ) (Pipeline.arrRefs (τ := τ) spec0) (V c) ∗ (∃ r, prngReg c r)
    ∗ (StableHlo.held (c.tc : Thread nD τ) others (V c) ∗ emp) ∗ kept V c ∗ ∃ Wd, owes (c : Thread nD τ) (0 + owe (q0 c)) Wd)
  rw [zero_add, StableHlo.held_sub_split (c : Thread nD τ) arr_sub (V c)]
  iintro ⟨⟨Ha, Hr⟩, Hp, Hk, HO⟩
  isplitl [Ha]; · iexact Ha
  isplitl [Hp]; · iexact Hp
  isplitl [Hr]
  · isplitl [Hr]; · iexact Hr
    iempintro
  isplitl [Hk]; · iexact Hk
  iexact HO

theorem reg_post (c : Dev nD) : (reg V).post c
    ⊢ iprop(StableHlo.held (c : Thread nD τ) (Pipeline.ucRefs τ sig) (Vout V c) ∗ (semVal (gR c 0) 0 ∗ ∃ W, owes (c : Thread nD τ) (0 : CellTallies nD τ sig Unit) W)) := by
  show iprop(StableHlo.held (c.tc : Thread nD τ) (Pipeline.arrRefs (τ := τ) spec0) (Vout V c) ∗ (∃ r, prngReg c r)
    ∗ (StableHlo.held (c.tc : Thread nD τ) others (Vout V c) ∗ emp) ∗ semVal (gR c 0) 0 ∗ ∃ Wd, owes (c : Thread nD τ) (0 : CellTallies nD τ sig Unit) Wd) ⊢ _
  rw [StableHlo.held_sub_split (c : Thread nD τ) arr_sub (Vout V c)]
  iintro ⟨Ha, -, ⟨Hr, -⟩, Hb, HO⟩
  isplitl [Ha Hr]
  · isplitl [Ha]; · iexact Ha
    iexact Hr
  isplitl [Hb]; · iexact Hb
  iexact HO

end Cert.KernelIdeal.Proof

end
-- ==== Proof.Run.lean ====
module

public import proofs.«01_k».proof.Proof.Segment

@[expose] public section

noncomputable section

namespace Cert.KernelIdeal.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen Cert.KernelIdeal

variable {F : FTy → Type} [FloatOps F]

local notation "𝕄" => MT nD τ sig Unit (Elt F) ℕ UU ℕ

/-! ## The launch: all cells' invariants at once, the duties' tokens and the credit dealt out -/

abbrev eLf : Dev nD ≃ Dev nD := ⟨lf, rt, rt_lf, lf_rt⟩
abbrev eRt : Dev nD ≃ Dev nD := ⟨rt, lf, lf_rt, rt_lf⟩
abbrev eZl : Dev nD ≃ Dev nD := ⟨zl, zr, zr_zl, zl_zr⟩
abbrev eZr : Dev nD ≃ Dev nD := ⟨zr, zl, zl_zr, zr_zl⟩
abbrev eXp : Dev nD ≃ Dev nD := ⟨xp, xp, xp_xp, xp_xp⟩

/-! ### The tokens -/

/-- For each duty in the order of `tkAll`: the semaphore it is at, -/
abbrev tSem : Fin 30 → SemLoc sig := fun t => if t.val < 5 then .reg 0 else if t.val < 10 then .reg 1 else .dma (⟨t.val - 7, by omega⟩ : Fin 23)
/-- its number there, -/
abbrev tDuty : Fin 30 → Fin 5 := fun t => if t.val < 10 then ![1, 0, 3, 2, 4] ⟨t.val % 5, Nat.mod_lt _ (by decide)⟩ else 0
/-- and which device's semaphore a device pays at. -/
abbrev tTo : Fin 30 → (Dev nD ≃ Dev nD) := fun t =>
  if t.val < 10 then ![eLf, eRt, eZl, eZr, eXp] ⟨t.val % 5, Nat.mod_lt _ (by decide)⟩
  else if 13 ≤ t.val ∧ t.val < 16 then eRt else if 19 ≤ t.val ∧ t.val < 22 then eZr else if 26 ≤ t.val then eXp else Equiv.refl _

theorem tok_inj : Function.Injective fun t : Fin 30 => (tSem t, tDuty t) := by decide

/-- Every duty of every device. -/
def toks : Finset (GSem nD τ sig × ℕ × Fin 5) :=
  Finset.univ.map ⟨fun p : Dev nD × Fin 30 => (((p.1 : Thread nD τ), tSem p.2), 0, tDuty p.2), fun a b h =>
    Prod.ext (congrArg (fun x : GSem nD τ sig × ℕ × Fin 5 => x.1.1.1) h)
      (tok_inj (Prod.ext (congrArg (fun x : GSem nD τ sig × ℕ × Fin 5 => x.1.2) h) (congrArg (fun x : GSem nD τ sig × ℕ × Fin 5 => x.2.2) h)))⟩

theorem tkAll_eq (c : Dev nD) :
    (bigSep Finset.univ fun t : Fin 30 => (dutyTok ER ((tTo t c : Thread nD τ), tSem t) 0 (tDuty t) : sProp 𝕄)) = tkAll c := by
  rw [bigSep_univ_eq_bigSepL [0, 1, 2, 3, 4, 5, 6, 7, 8, 9, 10, 11, 12, 13, 14, 15, 16, 17, 18, 19, 20, 21, 22, 23, 24, 25, 26, 27, 28, 29] (by decide) (by decide)]
  rfl

/-- Who pays which duty of whom. -/
def payer : Dev nD × Fin 30 ≃ Dev nD × Fin 30 where
  toFun p := (tTo p.2 p.1, p.2)
  invFun p := ((tTo p.2).symm p.1, p.2)
  left_inv p := Prod.ext ((tTo p.2).symm_apply_apply p.1) rfl
  right_inv p := Prod.ext ((tTo p.2).apply_symm_apply p.1) rfl

/-- The tokens, each with the device that pays it. -/
theorem toks_dealt : bigSep toks (fun x => (dutyTok ER x.1 x.2.1 x.2.2 : sProp 𝕄)) = bigSep Finset.univ fun c : Dev nD => tkAll c := by
  unfold toks
  rw [bigSep_map, bigSep_univ_equiv payer, bigSep_univ_prod]
  exact bigSep_congr fun c _ => tkAll_eq c

/-! ### The credit -/

/-- What each device owes, in order: whom, at which semaphore, how much. -/
abbrev dues : List ((Dev nD ≃ Dev nD) × SemLoc sig × ℕ) :=
  [(eLf, .reg 0, 1),
    (eRt, .reg 0, 1),
    (eZl, .reg 0, 1),
    (eZr, .reg 0, 1),
    (eXp, .reg 0, 1),
    (eRt, .dma 6, N),
    (eRt, .dma 7, N),
    (eRt, .dma 8, N),
    (eXp, .dma 19, N),
    (eZr, .dma 12, N),
    (eXp, .dma 20, N),
    (eZr, .dma 13, N),
    (eXp, .dma 21, N),
    (eZr, .dma 14, N),
    (eXp, .dma 22, N),
    (eLf, .reg 1, 1),
    (eRt, .reg 1, 1),
    (eZl, .reg 1, 1),
    (eZr, .reg 1, 1),
    (eXp, .reg 1, 1)]
/-- What each device is owed, in the same order. -/
abbrev mine (c : Dev nD) : List (Dev nD × SemLoc sig × ℕ) := dues.map fun p => (c, p.2)

theorem owe_sum (l : List ((Dev nD ≃ Dev nD) × SemLoc sig × ℕ)) :
    (∑ c : Dev nD, owe (l.map fun p => (p.1 c, p.2))) = ∑ c : Dev nD, owe (l.map fun p => (c, p.2)) := by
  induction l with
  | nil => rfl
  | cons p l ih =>
    simp only [List.map_cons, owe, Finset.sum_add_distrib]
    rw [ih]
    exact congrArg _ (Equiv.sum_comp p.1 fun c : Dev nD => (tallyAt ((c : Thread nD τ), p.2.1) () p.2.2 : CellTallies nD τ sig Unit))

theorem owe_own (c : Dev nD) (g : GSem nD τ sig) (h : owe (mine c) g ≠ 0) : g.1 = (c.tc : Thread nD τ) := by
  obtain ⟨u, hu⟩ := Finsupp.ne_iff.mp h
  obtain ⟨p, hp, rfl⟩ := owe_pos (Nat.pos_of_ne_zero hu)
  obtain ⟨q, -, rfl⟩ := List.mem_map.mp hp
  rfl

theorem launch_owed (c : Dev nD) : (Pipeline.launchCred (fun d => owe (q0 d)) c : sProp 𝕄) = cred (owe (mine c)) :=
  Pipeline.launchCred_of_sum (fun d => owe (q0 d)) (fun d => owe (mine d)) (owe_sum dues) owe_own c

theorem cred_plus (a b : CellTallies nD τ sig Unit) : (cred (a + b) : sProp 𝕄) ⊢ iprop(cred a ∗ cred b) := (cred_add a b).1

theorem cred_more (g : GSem nD τ sig) (a b : ℕ) :
    iprop(cred (tallyAt g () a) ∗ cred (tallyAt g () b)) ⊢ (cred (tallyAt g () (a + b)) : sProp 𝕄) :=
  (cred_add _ _).2.trans (Entails.of_eq (congrArg cred (tallyAt_add g () a b)))

theorem cred_five (g : GSem nD τ sig) :
    iprop(cred (tallyAt g () 1) ∗ cred (tallyAt g () 1) ∗ cred (tallyAt g () 1) ∗ cred (tallyAt g () 1) ∗ cred (tallyAt g () 1))
      ⊢ (cred (tallyAt g () 5) : sProp 𝕄) := by
  iintro ⟨A, B, C, D, E⟩
  ihave X := (cred_more (F := F) g 1 1) $$ [A B]
  · isplitl [A] <;> iassumption
  ihave Y := (cred_more (F := F) g (1 + 1) 1) $$ [X C]
  · isplitl [X] <;> iassumption
  ihave Z := (cred_more (F := F) g (1 + 1 + 1) 1) $$ [Y D]
  · isplitl [Y] <;> iassumption
  iapply (cred_more (F := F) g (1 + 1 + 1 + 1) 1)
  isplitl [Z] <;> iassumption

theorem creds (c : Dev nD) : (Pipeline.launchCred (fun d => owe (q0 d)) c : sProp 𝕄) ⊢ crAll c := by
  rw [launch_owed]
  simp only [mine, dues, List.map_cons, List.map_nil, owe]
  unfold crAll
  iintro H
  ihave H := (cred_plus (F := F) _ _) $$ H; icases H with ⟨H, H0⟩
  ihave H := (cred_plus (F := F) _ _) $$ H; icases H with ⟨H, H1⟩
  ihave H := (cred_plus (F := F) _ _) $$ H; icases H with ⟨H, H2⟩
  ihave H := (cred_plus (F := F) _ _) $$ H; icases H with ⟨H, H3⟩
  ihave H := (cred_plus (F := F) _ _) $$ H; icases H with ⟨H, H4⟩
  ihave H := (cred_plus (F := F) _ _) $$ H; icases H with ⟨H, H5⟩
  ihave H := (cred_plus (F := F) _ _) $$ H; icases H with ⟨H, H6⟩
  ihave H := (cred_plus (F := F) _ _) $$ H; icases H with ⟨H, H7⟩
  ihave H := (cred_plus (F := F) _ _) $$ H; icases H with ⟨H, H8⟩
  ihave H := (cred_plus (F := F) _ _) $$ H; icases H with ⟨H, H9⟩
  ihave H := (cred_plus (F := F) _ _) $$ H; icases H with ⟨H, H10⟩
  ihave H := (cred_plus (F := F) _ _) $$ H; icases H with ⟨H, H11⟩
  ihave H := (cred_plus (F := F) _ _) $$ H; icases H with ⟨H, H12⟩
  ihave H := (cred_plus (F := F) _ _) $$ H; icases H with ⟨H, H13⟩
  ihave H := (cred_plus (F := F) _ _) $$ H; icases H with ⟨H, H14⟩
  ihave H := (cred_plus (F := F) _ _) $$ H; icases H with ⟨H, H15⟩
  ihave H := (cred_plus (F := F) _ _) $$ H; icases H with ⟨H, H16⟩
  ihave H := (cred_plus (F := F) _ _) $$ H; icases H with ⟨H, H17⟩
  ihave H := (cred_plus (F := F) _ _) $$ H; icases H with ⟨H, H18⟩
  ihave H := (cred_plus (F := F) _ _) $$ H; icases H with ⟨H, H19⟩
  isplitl [H0 H1 H2 H3 H4]
  · iapply (cred_five (F := F) (gR c 0))
    isplitl [H0]; · iexact H0
    isplitl [H1]; · iexact H1
    isplitl [H2]; · iexact H2
    isplitl [H3]; · iexact H3
    iexact H4
  isplitl [H15 H16 H17 H18 H19]
  · iapply (cred_five (F := F) (gR c 1))
    isplitl [H15]; · iexact H15
    isplitl [H16]; · iexact H16
    isplitl [H17]; · iexact H17
    isplitl [H18]; · iexact H18
    iexact H19
  isplitl [H5]; · iexact H5
  isplitl [H6]; · iexact H6
  isplitl [H7]; · iexact H7
  isplitl [H9]; · iexact H9
  isplitl [H11]; · iexact H11
  isplitl [H13]; · iexact H13
  isplitl [H8]; · iexact H8
  isplitl [H10]; · iexact H10
  isplitl [H12]; · iexact H12
  iexact H14

/-! ### What there is at launch, and what each device gets -/

variable (V : Dev nD → Valuation τ sig (Elt F))

theorem deal_apart (Φ Ψ : Dev nD → sProp 𝕄) :
    bigSep Finset.univ (fun c => iprop(Φ c ∗ Ψ c)) ⊢ iprop(bigSep Finset.univ Φ ∗ bigSep Finset.univ Ψ) := Entails.of_eq (bigSep_sep' _ _ _)
theorem deal_both (Φ Ψ : Dev nD → sProp 𝕄) :
    iprop(bigSep Finset.univ Φ ∗ bigSep Finset.univ Ψ) ⊢ bigSep Finset.univ (fun c => iprop(Φ c ∗ Ψ c)) := Entails.of_eq (bigSep_sep' _ _ _).symm

theorem cells_apart : Disjoint barCells ownCells := by
  rw [Finset.disjoint_left]
  rintro g h₁ h₂
  obtain ⟨c, -, rfl⟩ := Finset.mem_map.mp h₁
  obtain ⟨ck, -, h⟩ := Finset.mem_map.mp h₂
  exact (by decide : ∀ k : Fin 21, osem k ≠ .reg 0) ck.2 (congrArg Prod.snd h)

/-- The ghost state made at launch. -/
def u₀ : UU :=
  (initOf (Pipeline.cells (Pipeline.pin (pcfgs (F := F)) adm) cellOf_inj) (Pipeline.launchToks (Pipeline.pin (pcfgs (F := F)) adm) cellOf_inj),
    launchOf barCells ownCells toks)

/-- Device 0 holds the protocol's share of it until it is dealt out. -/
def ghost0 (c : Dev nD) : sProp 𝕄 := if c = 0 then BI.own (ER (launchOf barCells ownCells toks)) else iprop(emp)

theorem ghost0_all : bigSep Finset.univ (ghost0 (F := F)) = BI.own (ER (launchOf barCells ownCells toks)) := by
  rw [bigSep_univ_at _ (0 : Dev nD), bigSep_congr (s := Finset.univ.erase (0 : Dev nD)) (Ψ := fun _ => (BI.emp : sProp 𝕄))
    fun c hc => by unfold ghost0; rw [if_neg (Finset.ne_of_mem_erase hc)]; rfl, BI.bigSep_emp_const]
  unfold ghost0
  rw [if_pos rfl]
  exact BI.equiv_iff.mp sep_emp

theorem unscoped_one (c : Dev nD) : (unscopedSems0 c : sProp 𝕄) = semVal (gR c 0) 0 := by
  unfold unscopedSems0
  rw [show (Finset.univ.filter fun sm : SemLoc sig => ¬ sm.isScoped .tc) = {SemLoc.reg 0} from by decide, BI.bigSep_singleton]

/-- What is a device's own: its place at its barrier, its rights to open, its tokens. -/
def linear (c : Dev nD) : sProp 𝕄 :=
  iprop(atPos ER (gR c 0) 0 ∅ 0 ∗ (bigSep Finset.univ fun k : Fin 21 => openTok ER ((c : Thread nD τ), osem k)) ∗ tkAll c)
/-- What it has besides. -/
def bundle (c : Dev nD) : sProp 𝕄 :=
  iprop(crAll c ∗ (∃ W, owes (c : Thread nD τ) (owe (q0 c)) W) ∗ ∃ r, prngReg c r)
/-- What it brings to the region. -/
def start (c : Dev nD) : sProp 𝕄 := iprop((∃ r, prngReg c r) ∗ kept V c ∗ ∃ W, owes (c : Thread nD τ) (owe (q0 c)) W)

theorem start_intro (K : GSem nD τ sig → ℕ) (c : Dev nD) : iprop(known (PV V) (GV V) K ∗ (linear c ∗ bundle c)) ⊢ start V c := by
  unfold linear bundle start kept
  iintro ⟨#Hk, ⟨Ha, Ho, Ht⟩, Hc, HO, Hp⟩
  isplitl [Hp]; · iexact Hp
  isplitr [HO]
  · isplitl [Ha Ho]
    · iexists K
      isplitr; · iexact Hk
      isplitl [Ha] <;> iassumption
    isplitl [Hc] <;> iassumption
  iexact HO

theorem launch (ρ : Dev nD → PrngReg) :
    iprop((bigSep Finset.univ fun c : Dev nD => iprop(unscopedSems0 c ∗ owes (c : Thread nD τ) (owe (q0 c)) ∅
          ∗ Pipeline.launchCred (fun d => owe (q0 d)) c ∗ prngReg c (ρ c) ∗ ghost0 c)) ∗ levAts L lv)
      ⊢ (|={Set.univ}=> bigSep Finset.univ (start V) : sProp 𝕄) := by
  have hcore (c : Dev nD) : iprop(unscopedSems0 c ∗ owes (c : Thread nD τ) (owe (q0 c)) ∅
        ∗ Pipeline.launchCred (fun d => owe (q0 d)) c ∗ prngReg c (ρ c) ∗ ghost0 c)
      ⊢ (iprop(bundle c ∗ (semVal (gR c 0) 0 ∗ ghost0 c)) : sProp 𝕄) := by
    rw [unscoped_one]
    unfold bundle
    iintro ⟨Hs, HO, Hc, Hp, HG⟩
    isplitl [HO Hc Hp]
    · isplitl [Hc]; · iapply (creds (F := F) c); iexact Hc
      isplitl [HO]; · iexists ∅; iexact HO
      iexists (ρ c); iexact Hp
    isplitl [Hs] <;> iassumption
  have hall (h : ∀ c : Dev nD, iprop(unscopedSems0 c ∗ owes (c : Thread nD τ) (owe (q0 c)) ∅
        ∗ Pipeline.launchCred (fun d => owe (q0 d)) c ∗ prngReg c (ρ c) ∗ ghost0 c)
      ⊢ (iprop(bundle c ∗ (semVal (gR c 0) 0 ∗ ghost0 c)) : sProp 𝕄)) :
      (bigSep Finset.univ fun c : Dev nD => iprop(unscopedSems0 c ∗ owes (c : Thread nD τ) (owe (q0 c)) ∅
        ∗ Pipeline.launchCred (fun d => owe (q0 d)) c ∗ prngReg c (ρ c) ∗ ghost0 c))
      ⊢ (bigSep Finset.univ fun c : Dev nD => iprop(bundle c ∗ (semVal (gR c 0) 0 ∗ ghost0 c)) : sProp 𝕄) := bigSep_mono fun c _ => h c
  have hv : bigSep Finset.univ (fun c : Dev nD => (semVal (gR c 0) 0 : sProp 𝕄)) ⊢ bigSep barCells (fun g => (semVal g 0 : sProp 𝕄)) := by
    unfold barCells
    exact Entails.of_eq (bigSep_map (s := Finset.univ) ⟨fun c : Dev nD => gR c 0, fun a b h => congrArg (fun g : GSem nD τ sig => g.1.1) h⟩
      (Φ := fun g : GSem nD τ sig => (semVal g 0 : sProp 𝕄))).symm
  have hat : bigSep barCells (fun g => (atPos ER g 0 ∅ 0 : sProp 𝕄)) ⊢ bigSep Finset.univ (fun c : Dev nD => (atPos ER (gR c 0) 0 ∅ 0 : sProp 𝕄)) := by
    unfold barCells
    exact Entails.of_eq (bigSep_map _)
  have hopen : bigSep ownCells (fun g => (openTok ER g : sProp 𝕄))
      ⊢ bigSep Finset.univ (fun c : Dev nD => bigSep Finset.univ fun k : Fin 21 => (openTok ER ((c : Thread nD τ), osem k) : sProp 𝕄)) := by
    unfold ownCells
    exact Entails.of_eq ((bigSep_map _).trans (bigSep_univ_prod _))
  iintro ⟨H, #Hlev⟩
  ihave H' := (hall hcore) $$ H
  ihave H2 := (deal_apart (F := F) _ _) $$ H'; icases H2 with ⟨HB, H3⟩
  ihave H4 := (deal_apart (F := F) _ _) $$ H3; icases H4 with ⟨Hv, HG⟩
  ihave Hu := (Entails.of_eq (ghost0_all (F := F))) $$ HG
  imod (Rounds.fund_launch ER (Rd (PV V) (GV V)) cells_apart (fun g _ h => h) toks) $$ [Hv Hu] with ⟨%K, -, #Hinv, #Hr, Hat, Hopen, Htok⟩
  · isplitl [Hv]
    · iapply hv $$ Hv
    · iexact Hu
  imodintro
  iapply (bigSep_with_persistent (R := known (PV V) (GV V) K) (Φ := fun c => iprop(linear c ∗ bundle c)) fun c _ => start_intro V K c)
  isplitr
  · unfold known
    isplitr; · iexact Hinv
    isplitr; · iexact Hr
    iexact Hlev
  iapply (deal_both (F := F) _ _)
  isplitr [HB]
  · unfold linear
    iapply (deal_both (F := F) _ _); isplitl [Hat]; · iapply hat $$ Hat
    iapply (deal_both (F := F) _ _); isplitl [Hopen]; · iapply hopen $$ Hopen
    iapply (Entails.of_eq (toks_dealt (F := F))) $$ Htok
  · iexact HB

/-! ## The whole run -/

variable (m : (ℓ : Loc nD τ sig) → Buf (Elt F) ℓ) (ρ : Dev nD → PrngReg)

/-- What the region leaves in the result. -/
abbrev left : Outs (F := F) := fun _ r c =>
  if h : r = main_v19 then h ▸ resOf (PV (V1 m)) (GV (V1 m)) c else m ((c : Thread nD τ).loc r)

theorem left_eq (c : Dev nD) : V2 m (left m) c = Vout (V1 m) c := by
  show Function.update (V1 m c) _ (left m 2 main_v19 c) = _
  rw [show left m 2 main_v19 c = resOf (PV (V1 m)) (GV (V1 m)) c from dif_pos rfl]

abbrev ride : Fin 2 → Dev nD → sProp 𝕄 := fun j c =>
  if j.val = 0 then start (V1 m) c else iprop(semVal (gR c 0) 0 ∗ ∃ W, owes (c : Thread nD τ) (0 : CellTallies nD τ sig Unit) W)

theorem only_bar : ∀ sm : SemLoc sig, sm.isScoped .tc = false → sm = .reg 0 := by decide

theorem mem_uc (r : Ref sig .tc) (h : r ∈ [main_arg0, main_arg1, main_v19]) : Proc.devRef (τ := τ) .tc r ∈ Pipeline.ucRefs τ sig :=
  Finset.mem_filter.mpr ⟨StableHlo.devRef_mem_tcRefs r, by
    have h' : ∀ r ∈ [main_arg0, main_arg1, main_v19], ¬ (Proc.devRef (τ := τ) .tc r : DevRef τ sig).isScoped := by decide
    exact h' r h⟩

set_option backward.isDefEq.respectTransparency.types false in
/-- Every run of @main ends, with the result as `resOf` says, the arguments as they were, and every counter at zero. -/
theorem run_main : θ_run defs (onTc (τ := τ) (main (F := F))) ⟨m, fun _ => 0, ρ⟩ (fun r =>
    (∀ c : Dev nD, r.2.mem ((c.tc : Thread nD τ).loc main_v19) = resOf (PV (V1 m)) (GV (V1 m)) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (pdats (V1 m)) () cellOf_inj EP defs₀ 𝒱₀ L lv m ρ main
    (segs m 𝒱₀ L lv (ride m) () (pdats (V1 m)) (reg (V1 m)))
    (fun c Q => by
      rewrite [main_chain c, Pipeline.Seg.run_eq_chain,
        show (segs m 𝒱₀ L lv (ride m) () (pdats (V1 m)) (reg (V1 m)) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun c => owe (q0 c)) L_of_ne ghost0 (u₀ (F := F)) ?_
    (T₀ := fun c => iprop(StableHlo.held (c : Thread nD τ) (Pipeline.ucRefs τ sig) (V0 m c) ∗ ride m 0 c))
    (Tₙ := fun c => iprop(StableHlo.held (c : Thread nD τ) (Pipeline.ucRefs τ sig) (Vout (V1 m) c) ∗ semVal (gR c 0) 0))
    (hch := fun c => ⟨.rfl, ?_, (reg_post (V1 m) c).trans ?_⟩)
    (hinit := ?_)
    (QY := fun c s => (s.mem ((c.tc : Thread nD τ).loc main_v19) = resOf (PV (V1 m)) (GV (V1 m)) c
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (gR c 0) = 0)
    (hfin := fun c s' => ?_)
    (hQ := fun s h hs => ⟨fun c => (h c).1, sem_eq_zero hs fun c sm hsm => by
      obtain rfl := only_bar sm hsm
      exact (h c).2⟩)
  · unfold u₀
    iintro Hu
    ihave H := (ownU_pair _ _) $$ Hu
    icases H with ⟨HP, HX⟩
    imodintro
    isplitl [HP]; · iexact HP
    rw [ghost0_all]; iexact HX
  · show iprop(StableHlo.held (c : Thread nD τ) (Pipeline.ucRefs τ sig) (V1 m c) ∗ start (V1 m) c) ⊢ _
    unfold start
    exact reg_pre (V1 m) c
  · iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c : Thread nD τ) (owe (q0 c)) ∅ ∗ Pipeline.launchCred (fun d => owe (q0 d)) c ∗ prngReg c (ρ c) ∗ ghost0 c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owe (q0 c)) ∅
              ∗ Pipeline.launchCred (fun d => owe (q0 d)) c ∗ prngReg c (ρ c) ∗ ghost0 c)) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch (V1 m) ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (Vout (V1 m) c) s') $$ [Hh HSI]
    · isplitl [Hh] <;> iassumption
    icases Hr with ⟨%h, HSI⟩
    imodintro
    isplitr
    · ipureintro
      refine ⟨⟨?_, ?_, ?_⟩, by simpa using hb⟩
      · exact (h (Proc.devRef .tc main_v19) (mem_uc main_v19 (by decide))).trans
          (Function.update_self (Proc.devRef .tc main_v19 : DevRef τ sig) (resOf (PV (V1 m)) (GV (V1 m)) c) (V1 m c))
      · exact (h (Proc.devRef .tc main_arg0) (mem_uc main_arg0 (by decide))).trans
          ((congrFun (left_eq m c) _).symm.trans (V2_main_arg0 m (left m) c))
      · exact (h (Proc.devRef .tc main_arg1) (mem_uc main_arg1 (by decide))).trans
          ((congrFun (left_eq m c) _).symm.trans (V2_main_arg1 m (left m) c))
    · iexact HSI

end Cert.KernelIdeal.Proof

end
-- ==== Proof.Frames.lean ====
module

public import proofs.«01_k».proof.Defs
public import proofs.«01_k».proof.Proof.Gen.Kernel
public import proofs.«01_k».proof.Proof.Run
public import proofs.«01_k».proof.Proof.Gen.ReferenceIdeal.Run
public import Idealize.ShloMosaic.Lib.Quiescent

@[expose] public section

noncomputable section

namespace Cert.Proof

open Idealize.ShloMosaic Idealize.SL.Sem

/-! ## Every program ends, with its arguments as they were and every counter at zero -/

/-- The run over any float values, without the result. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) ∧ r.2.sem = fun _ => 0) :=
  (θ_run Cert.KernelIdeal.defs _ _).mono (fun _ h => ⟨fun c => (h.1 c).2, h.2⟩) (Cert.KernelIdeal.Proof.run_main (F := F) m ρ)

theorem frame_ideal : Cert.quiescent_KernelIdeal := fun m ρ _ => frame_any (F := Ideal) m ρ

/-! The kernel and its reading over exact values have the same text, so their body tables are equal, and the run over any float values is
the kernel's too. -/

theorem tables_eq : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨l, h⟩ := l
  match l, h, a with
  | 0, _, (t, s) => rfl
  | n + 1, h, _ => exact absurd h (Nat.not_lt.2 (Nat.le_add_left _ _))

theorem defs_eq : Cert.Kernel.defs (F := Bits) = Cert.KernelIdeal.defs (F := Bits) :=
  congrArg (Pipeline.defs Cert.Kernel.pcfgs) tables_eq

theorem frame_kernel : Cert.quiescent_Kernel := fun m ρ _ => by
  rw [defs_eq]
  exact frame_any (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.RefValue.lean ====
module

public import proofs.«01_k».proof.Proof.Gen.ReferenceIdeal.Run
public import Idealize.ShloMosaic.Lib.ValueIdx
public import Idealize.ShloMosaic.Lib.IdealHost
public import Idealize.ShloMosaic.Lib.KernelVsHost
public import Idealize.ShloMosaic.PureOps.Ideal.Laws

@[expose] public section

noncomputable section

namespace Cert.Proof

open Idealize.ShloMosaic Idealize.ShloMosaic.ValueIdx
open Cert.ReferenceIdeal Cert.ReferenceIdeal.Gen

/-! ## What the reference computes, an element at a time -/

/-- Element `j` of a row `y` divided by the row's root mean square and scaled by `g`. -/
def rowOut (y g : Fin 1024 → EReal) (j : Fin 1024) : EReal :=
  Ideal.div (y j) (Ideal.sqrt (Ideal.div (∑ k, y k * y k) (Ideal.ofBits .f32 0x44800000#32) + Ideal.ofBits .f32 0x358637BD#32)) * g j

/-- Row `r` of the sum of the four partial arrays. -/
def rowSum (X : (⟨3, ![4, 4096, 1024]⟩ : Shape).Idx → EReal) (r : Fin 4096) (k : Fin 1024) : EReal := ∑ a : Fin 4, X (ix3 a r k)

/-- The reference's result as an array. -/
def refOut (X : (⟨3, ![4, 4096, 1024]⟩ : Shape).Idx → EReal) (g : (⟨1, ![1024]⟩ : Shape).Idx → EReal) :
    (⟨2, ![4096, 1024]⟩ : Shape).Idx → EReal := fun i => rowOut (rowSum X (i 0)) (fun k => g (ix1 k)) (i 1)

variable (X : FVec Ideal S4x4096x1024 .bf16) (g : FVec Ideal S1024 .bf16)

/-- The summed array, as the reference writes it. -/
abbrev sumH : FVec Ideal S4096x1024 .f32 :=
  Host.reduceAdd (extf .f32 X bitsLt_bf16_f32) (constant S_ .f32 0x00000000#32) reducesTo_S4x4096x1024_S4096x1024_d0 h_S_

theorem sumH_at (r : Fin 4096) (k : Fin 1024) : sumH X (ix2 r k) = rowSum X r k := by
  have h : (S4x4096x1024 : Shape).Reduces [0] S4096x1024 := by decide
  show Ideal.hostReduceAdd _ _ _ _ = _
  rw [Ideal.hostReduceAdd_single _ h]
  have h0 : (constant S_ .f32 0x00000000#32 : FVec Ideal S_ .f32) (Shape.Idx.first h_S_) = 0 := Ideal.ofBits_zero_f32
  rw [h0, zero_add]
  refine Finset.sum_congr rfl fun a _ => ?_
  show X (h.lift (ix2 r k) a) = X (ix3 a r k)
  congr 1
  funext d
  match d with
  | ⟨0, _⟩ => rfl
  | ⟨1, _⟩ => rfl
  | ⟨2, _⟩ => rfl

/-- The sum of a row's squares. -/
theorem squares_at (Y : FVec Ideal S4096x1024 .f32) (r : Fin 4096) :
    Host.reduceAdd (mulf Y Y) (constant S_ .f32 0x00000000#32) reducesTo_S4096x1024_S4096_d1 h_S_ (ix1 r)
      = ∑ k : Fin 1024, Y (ix2 r k) * Y (ix2 r k) := by
  have h : (S4096x1024 : Shape).Reduces [1] S4096 := by decide
  show Ideal.hostReduceAdd _ _ _ _ = _
  rw [Ideal.hostReduceAdd_single _ h]
  have h0 : (constant S_ .f32 0x00000000#32 : FVec Ideal S_ .f32) (Shape.Idx.first h_S_) = 0 := Ideal.ofBits_zero_f32
  rw [h0, zero_add]
  refine Finset.sum_congr rfl fun k _ => ?_
  have e : h.lift (ix1 r) k = ix2 r k := by
    funext d
    match d with
    | ⟨0, _⟩ => rfl
    | ⟨1, _⟩ => rfl
  rw [e]; rfl

/-- The root mean square of each row, as the reference writes it. -/
abbrev rmsH (Y : FVec Ideal S4096x1024 .f32) : FVec Ideal S4096x1 .f32 :=
  Host.sqrt (addf (Host.divf (broadcastInDim S4096x1 ![0] bcast_S4096_S4096x1_0
      (Host.reduceAdd (mulf Y Y) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32)))

theorem rmsH_at (Y : FVec Ideal S4096x1024 .f32) (r : Fin 4096) :
    rmsH Y (ix2 r 0) = Ideal.sqrt (Ideal.div (∑ k, Y (ix2 r k) * Y (ix2 r k)) (Ideal.ofBits .f32 0x44800000#32) + Ideal.ofBits .f32 0x358637BD#32) := by
  have h1 : broadcastInDim S4096x1 ![0] bcast_S4096_S4096x1_0
      (Host.reduceAdd (mulf Y Y) (constant S_ .f32 0x00000000#32) reducesTo_S4096x1024_S4096_d1 h_S_) (ix2 r 0)
        = ∑ k : Fin 1024, Y (ix2 r k) * Y (ix2 r k) := by
    rw [broadcastInDim_apply ![0] _ _ (ix2 r 0) (ix1 r) (fun a => by match a with | ⟨0, _⟩ => rfl), squares_at]
  rw [← h1]
  rfl

theorem ref_at (r : Fin 4096) (j : Fin 1024) :
    (mulf (Host.divf (sumH X) (broadcastInDim S4096x1024 ![0, 1] bcast_S4096x1_S4096x1024_0_1 (rmsH (sumH X))))
      (broadcastInDim S4096x1024 ![0, 1] bcast_S1x1024_S4096x1024_0_1
        (broadcastInDim S1x1024 ![1] bcast_S1024_S1x1024_1 (extf .f32 g bitsLt_bf16_f32)))) (ix2 r j)
      = rowOut (rowSum X r) (fun k => g (ix1 k)) j := by
  have h1 : broadcastInDim S4096x1024 ![0, 1] bcast_S4096x1_S4096x1024_0_1 (rmsH (sumH X)) (ix2 r j) = rmsH (sumH X) (ix2 r 0) :=
    broadcastInDim_apply ![0, 1] _ _ (ix2 r j) (ix2 r 0) (fun a => by match a with | ⟨0, _⟩ => rfl | ⟨1, _⟩ => rfl)
  have h2 : broadcastInDim S4096x1024 ![0, 1] bcast_S1x1024_S4096x1024_0_1
        (broadcastInDim S1x1024 ![1] bcast_S1024_S1x1024_1 (extf .f32 g bitsLt_bf16_f32)) (ix2 r j) = g (ix1 j) := by
    rw [broadcastInDim_apply ![0, 1] _ _ (ix2 r j) (ix2 0 j) (fun a => by match a with | ⟨0, _⟩ => rfl | ⟨1, _⟩ => rfl),
      broadcastInDim_apply ![1] _ _ (ix2 0 j) (ix1 j) (fun a => by match a with | ⟨0, _⟩ => rfl)]
    rfl
  rw [rmsH_at] at h1
  simp only [sumH_at] at h1
  show Ideal.div (sumH X (ix2 r j)) (broadcastInDim S4096x1024 ![0, 1] bcast_S4096x1_S4096x1024_0_1 (rmsH (sumH X)) (ix2 r j))
    * broadcastInDim S4096x1024 ![0, 1] bcast_S1x1024_S4096x1024_0_1
        (broadcastInDim S1x1024 ![1] bcast_S1024_S1x1024_1 (extf .f32 g bitsLt_bf16_f32)) (ix2 r j) = _
  rw [h1, h2, sumH_at]
  rfl

/-- The reference's term is `refOut`. -/
theorem ref_eq :
    (mulf (Host.divf (sumH X) (broadcastInDim S4096x1024 ![0, 1] bcast_S4096x1_S4096x1024_0_1 (rmsH (sumH X))))
      (broadcastInDim S4096x1024 ![0, 1] bcast_S1x1024_S4096x1024_0_1
        (broadcastInDim S1x1024 ![1] bcast_S1024_S1x1024_1 (extf .f32 g bitsLt_bf16_f32)))) = refOut X g := by
  funext i
  exact (congrArg _ (eq_ix2 i)).trans (ref_at X g (i 0) (i 1))

end Cert.Proof

end
-- ==== Proof.KerValue.lean ====
module

public import proofs.«01_k».proof.Proof.Out
public import proofs.«01_k».proof.Proof.RefValue

@[expose] public section

noncomputable section

namespace Cert.KernelIdeal.Proof

open Idealize.ShloMosaic Idealize.ShloMosaic.ValueIdx
open Cert.KernelIdeal.Gen Cert.KernelIdeal
open Cert.Proof (rowOut)

/-! ## What one device computes, an element at a time, over exact values -/

/-- A block seen with a leading axis of size one, -/
theorem lead_at {α : Type} (f : S128x1024.Idx → α) (r : Fin 128) (k : Fin 1024) :
    shapeCast S1x128x1024 f shapeCasts_S128x1024_S1x128x1024 (ix3 0 r k) = f (ix2 r k) :=
  shapeCast_apply f _ (ix3 0 r k) (ix2 r k) (by rw [Shape.rowMajor_val_two, Shape.rowMajor_val_three]; simp)
/-- without it, -/
theorem drop_at {α : Type} (f : S1x128x1024.Idx → α) (r : Fin 128) (k : Fin 1024) :
    shapeCast S128x1024 f shapeCasts_S1x128x1024_S128x1024 (ix2 r k) = f (ix3 0 r k) :=
  shapeCast_apply f _ (ix2 r k) (ix3 0 r k) (by rw [Shape.rowMajor_val_two, Shape.rowMajor_val_three]; simp)
/-- and as it is. -/
theorem same_at {α : Type} (f : S128x1024.Idx → α) : shapeCast S128x1024 f shapeCasts_S128x1024_S128x1024 = f :=
  funext fun j => shapeCast_apply f _ j j rfl
theorem same_row {α : Type} (f : S1x1024.Idx → α) : shapeCast S1x1024 f shapeCasts_S1x1024_S1x1024 = f :=
  funext fun j => shapeCast_apply f _ j j rfl

theorem pay1_at (f : Vec Ideal S128x1024 .bf16) (r : Fin 128) (k : Fin 1024) : k0_pay1 f (ix3 0 r k) = f (ix2 r k) := by
  unfold k0_pay1
  rw [lead_at, same_at]

theorem pay2_at (u : Vec Ideal S1x128x1024 .bf16) (f : Vec Ideal S128x1024 .bf16) (r : Fin 128) (k : Fin 1024) :
    k0_pay2 u f (ix3 0 r k) = (u (ix3 0 r k) + f (ix2 r k) : EReal) := by
  unfold k0_pay2
  rw [lead_at, same_at]
  show (shapeCast S128x1024 u shapeCasts_S1x128x1024_S128x1024 (ix2 r k) + f (ix2 r k) : EReal) = _
  rw [drop_at]

theorem pay3_at (u : Vec Ideal S1x128x1024 .bf16) (f : Vec Ideal S128x1024 .bf16) (r : Fin 128) (k : Fin 1024) :
    k0_pay3 u f (ix3 0 r k) = (u (ix3 0 r k) + f (ix2 r k) : EReal) := by
  unfold k0_pay3
  rw [lead_at, same_at]
  show (shapeCast S128x1024 u shapeCasts_S1x128x1024_S128x1024 (ix2 r k) + f (ix2 r k) : EReal) = _
  rw [drop_at]

/-- The sum of a row's squares, as one device takes it. -/
theorem squares_row (Y : FVec Ideal S128x1024 .f32) (r : Fin 128) :
    multiReduction .add [1] S128 (mulf Y Y) 0x00000000#32 reduces_S128x1024_S128 (.inl rfl) rfl (ix1 r)
      = ∑ k : Fin 1024, (Y (ix2 r k) * Y (ix2 r k) : EReal) := by
  refine (Ideal.multiReduction_add_single (mulf Y Y) _ reduces_S128x1024_S128 (.inl rfl) rfl (ix1 r)).trans ?_
  refine Finset.sum_congr rfl fun k _ => ?_
  have e : reduces_S128x1024_S128.lift (ix1 r) k = ix2 r k := by
    funext d
    match d with
    | ⟨0, _⟩ => rfl
    | ⟨1, _⟩ => rfl
  rw [e]; rfl

/-- The root mean square of each row, as one device takes it. -/
abbrev rmsK (Y : FVec Ideal S128x1024 .f32) : FVec Ideal S128x1 .f32 :=
  sqrt (addf (divf (shapeCast S128x1
      (multiReduction .add [1] S128 (mulf Y Y) 0x00000000#32 reduces_S128x1024_S128 (.inl rfl) rfl) shapeCasts_S128_S128x1)
    (broadcast S128x1 (Scalar.ofBits .f32 0x44800000#32 : Ideal .f32))) (broadcast S128x1 (Scalar.ofBits .f32 0x358637BD#32 : Ideal .f32)))

theorem rmsK_at (Y : FVec Ideal S128x1024 .f32) (r : Fin 128) :
    rmsK Y (ix2 r 0) = Ideal.sqrt (Ideal.div (∑ k, Y (ix2 r k) * Y (ix2 r k)) (Ideal.ofBits .f32 0x44800000#32) + Ideal.ofBits .f32 0x358637BD#32) := by
  have h1 : shapeCast S128x1
      (multiReduction .add [1] S128 (mulf Y Y) 0x00000000#32 reduces_S128x1024_S128 (.inl rfl) rfl) shapeCasts_S128_S128x1 (ix2 r 0)
        = ∑ k : Fin 1024, (Y (ix2 r k) * Y (ix2 r k) : EReal) := by
    rw [shapeCast_apply _ _ (ix2 r 0) (ix1 r) (by rw [Shape.rowMajor_val_one, Shape.rowMajor_val_two]; simp), squares_row]
  rw [← h1]
  rfl

theorem pay4_at (u : Vec Ideal S1x128x1024 .bf16) (f : Vec Ideal S128x1024 .bf16) (g : Vec Ideal S1x1024 .bf16) (r : Fin 128) (j : Fin 1024) :
    k0_pay4 u f g (ix2 r j) = rowOut (fun k => (u (ix3 0 r k) + f (ix2 r k) : EReal)) (fun k => g (ix2 0 k)) j := by
  unfold k0_pay4
  rw [same_at, same_row]
  generalize hY : addf (extf .f32 (shapeCast S128x1024 u shapeCasts_S1x128x1024_S128x1024 : FVec Ideal S128x1024 .bf16) bitsLt_bf16_f32)
    (extf .f32 (f : FVec Ideal S128x1024 .bf16) bitsLt_bf16_f32) = Y
  have hy : ∀ k, Y (ix2 r k) = (u (ix3 0 r k) + f (ix2 r k) : EReal) := fun k => by
    rw [← hY]
    show (shapeCast S128x1024 u shapeCasts_S1x128x1024_S128x1024 (ix2 r k) + f (ix2 r k) : EReal) = _
    rw [drop_at]
  have h1 : broadcastTo S128x1024 (rmsK Y) broadcasts_S128x1_S128x1024 (ix2 r j) = rmsK Y (ix2 r 0) :=
    broadcastTo_apply _ _ (ix2 r j) (ix2 r (0 : Fin 1)) (fun a => by match a with | ⟨0, _⟩ => rfl | ⟨1, _⟩ => rfl)
  have h2 : ∀ w : FVec Ideal S1x1024 .f32, broadcastTo S128x1024 w broadcasts_S1x1024_S128x1024 (ix2 r j) = w (ix2 (0 : Fin 1) j) :=
    fun w => broadcastTo_apply w _ (ix2 r j) (ix2 (0 : Fin 1) j) (fun a => by match a with | ⟨0, _⟩ => rfl | ⟨1, _⟩ => rfl)
  rw [rmsK_at] at h1
  simp only [hy] at h1
  show (Ideal.div (Y (ix2 r j)) (broadcastTo S128x1024 (rmsK Y) broadcasts_S128x1_S128x1024 (ix2 r j))
    * broadcastTo S128x1024 (fun i => g i : FVec Ideal S1x1024 .f32) broadcasts_S1x1024_S128x1024 (ix2 r j) : EReal) = _
  rw [h1, h2, hy]
  rfl

variable (P : Dev nD → S512x1024.Idx → Elt Ideal .bf16) (G : Dev nD → S1x1024.Idx → Elt Ideal .bf16)

/-- A block that is narrowed, passed on and widened again is what it was. -/
theorem passed_on (c : Dev nD) : k0_pay7 (zv P G c) = rs P G c := by
  funext i
  rw [eq_ix2 i]
  unfold k0_pay7 zv k0_pay6 k0_pay5
  show shapeCast S128x1024 (shapeCast S1x128x1024 (rs P G c) shapeCasts_S128x1024_S1x128x1024) shapeCasts_S1x128x1024_S128x1024 (ix2 (i 0) (i 1)) = _
  exact (drop_at _ _ _).trans (lead_at _ _ _)

theorem own_self : ∀ c : Dev nD, own c (rowb c) = c := by decide +kernel

theorem blkOf_eq (c : Dev nD) (b : ℕ) : blkOf P G c b = rs P G (own c b) := by
  unfold blkOf
  split
  · next h => rw [h, own_self]
  · exact passed_on P G _

/-- Row `r` of row block `y` of device `d`'s operand. -/
def opRow (d : Dev nD) (y : Fin 4) (r : Fin 128) (k : Fin 1024) : EReal :=
  P d (ix2 (⟨128 * y.val + r.val, by omega⟩ : Fin 512) k)

theorem chunk_at (d : Dev nD) (off : Fin 2 → ℕ) (h : ∀ a, off a + S128x1024.size a ≤ S512x1024.size a) (y : Fin 4)
    (e : off = ![128 * y.val, 0]) (r : Fin 128) (k : Fin 1024) : chunk (P d) off h (ix2 r k) = opRow P d y r k := by
  subst e
  unfold chunk opRow
  congr 1
  funext a
  apply Fin.ext
  match a with
  | ⟨0, _⟩ => show 128 * y.val + 1 * r.val = _; rw [one_mul]
  | ⟨1, _⟩ => show 0 + 1 * k.val = _; rw [one_mul, zero_add]

/-- Where a device stands along the middle axis of the mesh. -/
def yOf (c : Dev nD) : Fin 4 := ⟨(c.val / 4) % 4, Nat.mod_lt _ (by decide)⟩

theorem yOf_step : ∀ c : Dev nD, ((lf (lf (lf c))).val / 4 + 3) % 4 = (yOf c).val ∧ ((lf (lf c)).val / 4 + 2) % 4 = (yOf c).val
    ∧ ((lf c).val / 4 + 1) % 4 = (yOf c).val := by decide +kernel

/-- Device `c`'s result block is the scaled sum of the same block at the four devices of its line. -/
theorem rs_at (c : Dev nD) (r : Fin 128) (j : Fin 1024) :
    rs P G c (ix2 r j) = rowOut (fun k => opRow P (lf (lf (lf c))) (yOf c) r k + opRow P (lf (lf c)) (yOf c) r k
      + opRow P (lf c) (yOf c) r k + opRow P c (yOf c) r k) (fun k => G c (ix2 0 k)) j := by
  obtain ⟨y3, y2, y1⟩ := yOf_step c
  unfold rs
  rw [pay4_at]
  congr 1
  funext k
  unfold u2
  rw [pay3_at]
  unfold u1
  rw [pay2_at]
  unfold u0
  rw [pay1_at, chunk_at P _ _ _ (yOf c) ((off1_eq _).trans (by rw [y3])), chunk_at P _ _ _ (yOf c) ((off2_eq0 _).trans (by rw [y2])),
    chunk_at P _ _ _ (yOf c) ((off2_eq1 _).trans (by rw [y1])), chunk_at P _ _ _ (yOf c) (off2_eq2 _)]

end Cert.KernelIdeal.Proof

end
-- ==== Proof.Operand.lean ====
module

public import proofs.«01_k».proof.Proof.Run
public import proofs.«01_k».proof.Proof.KerValue
public import Idealize.ShloMosaic.Lib.DynamicIndex
public import Idealize.ShloMosaic.Lib.StableHlo.Run

@[expose] public section

noncomputable section

namespace Cert.KernelIdeal.Proof

open Idealize.ShloMosaic Idealize.ShloMosaic.ValueIdx
open Idealize.ShloMosaic.TcCoe
open Cert.KernelIdeal.Gen Cert.KernelIdeal

/-! ## What the two operands of the call hold -/

variable (V : Valuation τ sig (Elt Ideal))

/-- The row at which device `c`'s part of each row block starts, as the host computes it. -/
abbrev startW (c : Dev nD) : (⟨S_, .i32⟩ : BufTy).Contents (Elt Ideal) :=
  muli (addi (muli (Host.remui (Host.divui (constantI S_ 32 (Dev.word c)) (constantI S_ 32 16#32)) (constantI S_ 32 2#32)) (constantI S_ 32 4#32))
    (Host.remui (Host.divui (constantI S_ 32 (Dev.word c)) (constantI S_ 32 1#32)) (constantI S_ 32 4#32))) (constantI S_ 32 128#32)
/-- Wrapped if negative. -/
abbrev wrapW (c : Dev nD) : (⟨S_, .i32⟩ : BufTy).Contents (Elt Ideal) :=
  select (cmpi .slt (startW c) (constantI S_ 32 0#32)) (addi (startW c) (constantI S_ 32 1024#32)) (startW c)

abbrev starts (c : Dev nD) : Fin 3 → (⟨S_, .i32⟩ : BufTy).Contents (Elt Ideal) := ![constantI S_ 32 0#32, wrapW c, constantI S_ 32 0#32]

theorem v18_eq (c : Dev nD) : StableHlo.after (hostOps0 c) V (Proc.devRef .tc main_v18)
    = shapeCast S1x1024 (V (Proc.devRef .tc main_arg1) : S1024.Idx → Elt Ideal .bf16) shapeCasts_S1024_S1x1024 := by
  unfold hostOps0
  after_results
  rfl

theorem v17_eq (c : Dev nD) : StableHlo.after (hostOps0 c) V (Proc.devRef .tc main_v17)
    = shapeCast S512x1024 (Host.dynamicSlice S4x128x1024 (shapeCast S4x1024x1024 (V (Proc.devRef .tc main_arg0) : S1x4096x1024.Idx → Elt Ideal .bf16)
        shapeCasts_S1x4096x1024_S4x1024x1024) (fun k => (starts c k (Shape.Idx.first h_S_)).toInt) sliceFits_S4x1024x1024_S4x128x1024)
        shapeCasts_S4x128x1024_S512x1024 := by
  unfold hostOps0
  after_results
  refine congrArg (fun st : Fin 3 → Int => shapeCast S512x1024 (Host.dynamicSlice S4x128x1024
    (shapeCast S4x1024x1024 (V (Proc.devRef .tc main_arg0) : S1x4096x1024.Idx → Elt Ideal .bf16) shapeCasts_S1x4096x1024_S4x1024x1024)
    st sliceFits_S4x1024x1024_S4x128x1024) shapeCasts_S4x128x1024_S512x1024) (funext fun k => congrArg BitVec.toInt (congrFun ?_ (Shape.Idx.first h_S_)))
  obtain ⟨k, hk⟩ := k
  match k, hk with
  | 0, _ =>
    show _ = constantI S_ 32 0#32
    refine (?_ : StableHlo.after (hostOps0 c) V (Proc.devRef .tc main_c_7) = constantI S_ 32 0#32)
    unfold hostOps0
    after_results
  | 1, _ =>
    refine (?_ : StableHlo.after (hostOps0 c) V (Proc.devRef .tc main_v15) = wrapW c)
    unfold hostOps0
    after_results
    rfl
  | 2, _ =>
    refine (?_ : StableHlo.after (hostOps0 c) V (Proc.devRef .tc main_c_8) = constantI S_ 32 0#32)
    unfold hostOps0
    after_results

/-- Where device `c`'s part of a row block starts, as a number. -/
theorem starts_at (c : Dev nD) : ∀ k : Fin 3, (starts c k (Shape.Idx.first h_S_)).toInt = ((![0, 128 * rowb c, 0] : Fin 3 → ℕ) k : Int) :=
  (by decide +kernel : ∀ c : Dev nD, ∀ k : Fin 3,
    (starts c k (Shape.Idx.first h_S_)).toInt = ((![0, 128 * rowb c, 0] : Fin 3 → ℕ) k : Int)) c

theorem rowb_lt : ∀ c : Dev nD, rowb c < 8 := by decide +kernel

theorem fits (c : Dev nD) : (S4x1024x1024 : Shape).Slices (![0, 128 * rowb c, 0] : Fin 3 → ℕ) S4x128x1024 := by
  have h := rowb_lt c
  refine ⟨rfl, fun a => ?_⟩
  match a with
  | ⟨0, _⟩ => show 0 + 4 ≤ 4; omega
  | ⟨1, _⟩ => show 128 * rowb c + 128 ≤ 1024; omega
  | ⟨2, _⟩ => show 0 + 1024 ≤ 1024; omega

/-- The row of the whole array at which row `r` of row block `y`, in device `c`'s part, stands. -/
def rowAt (c : Dev nD) (y : Fin 4) (r : Fin 128) : Fin 4096 :=
  ⟨1024 * y.val + 128 * rowb c + r.val, by have := rowb_lt c; omega⟩

theorem v17_at (c : Dev nD) (y : Fin 4) (r : Fin 128) (k : Fin 1024) :
    (StableHlo.after (hostOps0 c) V (Proc.devRef .tc main_v17) : S512x1024.Idx → Elt Ideal .bf16) (ix2 (⟨128 * y.val + r.val, by omega⟩ : Fin 512) k)
      = (V (Proc.devRef .tc main_arg0) : S1x4096x1024.Idx → Elt Ideal .bf16) (ix3 0 (rowAt c y r) k) := by
  have hb := rowb_lt c
  rw [v17_eq, Host.dynamicSlice_eq_extractStridedSlice S4x128x1024 _ _ _ _ (fits c) (starts_at c)]
  refine (shapeCast_apply _ _ (ix2 (⟨128 * y.val + r.val, by omega⟩ : Fin 512) k) (ix3 y r k) (by
    rw [Shape.rowMajor_val_two, Shape.rowMajor_val_three]
    show (y.val * 128 + r.val) * 1024 + k.val = (128 * y.val + r.val) * 1024 + k.val
    omega)).trans ?_
  refine (extractStridedSlice_apply _ _ (fits c) (ix3 y r k) (ix3 y (⟨128 * rowb c + r.val, by omega⟩ : Fin 1024) k) (fun a => by
    match a with
    | ⟨0, _⟩ => show y.val = 0 + y.val; omega
    | ⟨1, _⟩ => rfl
    | ⟨2, _⟩ => show k.val = 0 + k.val; omega)).trans ?_
  refine shapeCast_apply _ _ (ix3 y (⟨128 * rowb c + r.val, by omega⟩ : Fin 1024) k) (ix3 (0 : Fin 1) (rowAt c y r) k) ?_
  rw [Shape.rowMajor_val_three, Shape.rowMajor_val_three]
  show (0 * 4096 + (1024 * y.val + 128 * rowb c + r.val)) * 1024 + k.val = (y.val * 1024 + (128 * rowb c + r.val)) * 1024 + k.val
  omega

theorem v18_at (c : Dev nD) (k : Fin 1024) :
    (StableHlo.after (hostOps0 c) V (Proc.devRef .tc main_v18) : S1x1024.Idx → Elt Ideal .bf16) (ix2 0 k)
      = (V (Proc.devRef .tc main_arg1) : S1024.Idx → Elt Ideal .bf16) (ix1 k) := by
  rw [v18_eq]
  exact shapeCast_apply _ _ (ix2 (0 : Fin 1) k) (ix1 k) (by
    rw [Shape.rowMajor_val_two, Shape.rowMajor_val_one]; show k.val = 0 * 1024 + k.val; omega)

end Cert.KernelIdeal.Proof

end
-- ==== Proof.Equation.lean ====
module

public import proofs.«01_k».proof.Proof.Operand
public import Idealize.ShloMosaic.Lib.Layout

@[expose] public section

noncomputable section

namespace Cert.KernelIdeal.Proof

open Idealize.ShloMosaic Idealize.ShloMosaic.ValueIdx
open Idealize.ShloMosaic.TcCoe
open Cert.KernelIdeal.Gen Cert.KernelIdeal
open Cert.Proof (rowOut rowSum refOut)

/-! ## Every device's result is its block of the reference's -/

variable (m : (ℓ : Loc nD τ sig) → Buf (Elt Ideal) ℓ)
variable (X : (⟨3, ![4, 4096, 1024]⟩ : Shape).Idx → EReal) (g : (⟨1, ![1024]⟩ : Shape).Idx → EReal)

/-- The mesh block of a device is its place along the middle axis. -/
theorem mesh_y : ∀ c : Dev nD, Layout.meshLin [2, 4, 4] c.val [1] = (yOf c).val := by decide +kernel

/-- What the devices' arguments hold, of the whole arrays. -/
def Held : Prop := ∀ c : Dev nD,
  m ((c.tc : Thread nD τ).loc main_arg0) = Layout.blockN ⟨3, ![1, 4096, 1024]⟩ ⟨3, ![4, 4096, 1024]⟩ (Layout.meshBlock [2, 4, 4] ![[1], [], []] c) X
    ∧ m ((c.tc : Thread nD τ).loc main_arg1) = g

variable {m X g}

theorem arg0_at (h : Held m X g) (c : Dev nD) (R : Fin 4096) (k : Fin 1024) :
    (V0 m c (Proc.devRef .tc main_arg0) : S1x4096x1024.Idx → Elt Ideal .bf16) (ix3 0 R k) = X (ix3 (yOf c) R k) := by
  refine (congrFun (h c).1 (ix3 (0 : Fin 1) R k)).trans ?_
  show X _ = _
  congr 1
  funext a
  apply Fin.ext
  match a with
  | ⟨0, _⟩ => show (Layout.meshLin [2, 4, 4] c.val [1]) * 1 + 0 = (yOf c).val; rw [mesh_y]; omega
  | ⟨1, _⟩ => show 0 * 4096 + R.val = R.val; omega
  | ⟨2, _⟩ => show 0 * 1024 + k.val = k.val; omega

theorem opRow_at (h : Held m X g) (c : Dev nD) (y : Fin 4) (r : Fin 128) (k : Fin 1024) :
    opRow (PV (V1 m)) c y r k = X (ix3 (yOf c) (rowAt c y r) k) :=
  (v17_at (V0 m c) c y r k).trans (arg0_at h c _ k)

theorem gamma_at (h : Held m X g) (c : Dev nD) (k : Fin 1024) : GV (V1 m) c (ix2 0 k) = g (ix1 k) :=
  (v18_at (V0 m c) c k).trans (congrFun (h c).2 (ix1 k))

/-- The four devices of a line hold the same part of each row block, and stand at the four places. -/
theorem line_row : ∀ c : Dev nD, rowb (lf c) = rowb c := by decide +kernel
theorem line_y : ∀ c : Dev nD, yOf (lf c) = yOf c + 3 := by decide +kernel

theorem rowAt_line (c : Dev nD) (y : Fin 4) (r : Fin 128) : rowAt (lf c) y r = rowAt c y r :=
  Fin.ext (by show 1024 * y.val + 128 * rowb (lf c) + r.val = _; rw [line_row]; rfl)

theorem four_places (f : Fin 4 → EReal) (y : Fin 4) : f (y + 3 + 3 + 3) + f (y + 3 + 3) + f (y + 3) + f y = ∑ a, f a := by
  rw [Fin.sum_univ_four]
  match y with
  | 0 => show f 1 + f 2 + f 3 + f 0 = _; abel
  | 1 => show f 2 + f 3 + f 0 + f 1 = _; abel
  | 2 => show f 3 + f 0 + f 1 + f 2 = _; abel
  | 3 => show f 0 + f 1 + f 2 + f 3 = _; abel

theorem rs_eq (h : Held m X g) (c : Dev nD) (r : Fin 128) (j : Fin 1024) :
    rs (PV (V1 m)) (GV (V1 m)) c (ix2 r j) = refOut X g (ix2 (rowAt c (yOf c) r) j) := by
  rw [rs_at]
  show rowOut _ _ j = rowOut _ _ j
  have hy : (fun k => opRow (PV (V1 m)) (lf (lf (lf c))) (yOf c) r k + opRow (PV (V1 m)) (lf (lf c)) (yOf c) r k
      + opRow (PV (V1 m)) (lf c) (yOf c) r k + opRow (PV (V1 m)) c (yOf c) r k) = rowSum X (rowAt c (yOf c) r) := by
    funext k
    rw [opRow_at h, opRow_at h, opRow_at h, opRow_at h, rowAt_line, rowAt_line, rowAt_line, line_y, line_y, line_y]
    exact four_places (fun a => X (ix3 a (rowAt c (yOf c) r) k)) (yOf c)
  have hg : (fun k => (GV (V1 m) c (ix2 0 k) : EReal)) = fun k => g (ix1 k) := funext fun k => gamma_at h c k
  exact congrFun (congrArg₂ rowOut hy hg) j

/-- The device that computes row block `b` of `c`'s result. -/
theorem own_place : ∀ (c : Dev nD) (b : Fin 8), rowb (own c b.val) = b.val ∧ yOf (own c b.val) = yOf c := by decide +kernel

theorem block_eq (h : Held m X g) (c : Dev nD) :
    resOf (PV (V1 m)) (GV (V1 m)) c
      = Layout.blockN ⟨2, ![1024, 1024]⟩ ⟨2, ![4096, 1024]⟩ (Layout.meshBlock [2, 4, 4] ![[1], []] c) (refOut X g) := by
  funext i
  have hi : (i 0).val < 1024 := (i 0).isLt
  obtain ⟨o1, o2⟩ := own_place c ⟨(i 0).val / 128, by omega⟩
  show blkOf (PV (V1 m)) (GV (V1 m)) c ((i 0).val / 128) (inBlk i) = refOut X g _
  rw [blkOf_eq]
  have hb : inBlk i = ix2 (⟨(i 0).val % 128, Nat.mod_lt _ (by decide)⟩ : Fin 128) (i 1 : Fin 1024) := by
    funext a
    match a with
    | ⟨0, _⟩ => rfl
    | ⟨1, _⟩ => rfl
  rw [hb]
  refine (rs_eq h _ _ _).trans (congrArg _ ?_)
  funext a
  apply Fin.ext
  match a with
  | ⟨0, _⟩ =>
    show 1024 * (yOf (own c ((i 0).val / 128))).val + 128 * rowb (own c ((i 0).val / 128)) + (i 0).val % 128
      = Layout.meshLin [2, 4, 4] c.val [1] * 1024 + (i 0).val
    rw [mesh_y, o2, o1]; show _ + 128 * ((i 0).val / 128) + _ = _; omega
  | ⟨1, _⟩ =>
    show (i 1).val = 0 * 1024 + (i 1).val
    omega

end Cert.KernelIdeal.Proof

end
-- ==== Proof.lean ====
/- The proof of the claims of `Cert.Claim` (proofs.«01_k».proof.Defs): the three frames are in Proof/Frames.lean, from the run of
   Proof/Run.lean; the equation of kernel and reference is in Proof/Equation.lean. Here they are put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Device `c`'s result is block `c` of the reference's, over the extended reals. -/
theorem same_result : Cert.algebraic_KernelIdeal_ReferenceIdeal := fun m ρ m' ρ' _ hm => by
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ?_) (Cert.KernelIdeal.Proof.run_main (F := Ideal) m ρ)
    exact ⟨(h.1 c).1.trans (Cert.KernelIdeal.Proof.block_eq hm c), (h.1 c).2⟩
  · refine (θ_run Cert.ReferenceIdeal.defs _ _).mono (fun r h => ?_) (Cert.ReferenceIdeal.Value.run (F := Ideal) m' ρ')
    exact ⟨(h 0).1.trans (ref_eq _ _), (h 0).2⟩

theorem claim : Cert.Claim := ⟨Cert.Kernel.Gen.facts, Cert.KernelIdeal.Gen.facts, Cert.ReferenceIdeal.Gen.facts,
  frame_kernel, frame_ideal, frame_reference, trivial, same_result⟩

end Cert.Proof

end
